-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x3712 : Shape := ⟨3, ![2, 8192, 3712]⟩
abbrev S23040x3712 : Shape := ⟨2, ![23040, 3712]⟩
abbrev S23040 : Shape := ⟨1, ![23040]⟩
abbrev S16384x3712 : Shape := ⟨2, ![16384, 3712]⟩
abbrev S16384x1 : Shape := ⟨2, ![16384, 1]⟩
abbrev S512x3712 : Shape := ⟨2, ![512, 3712]⟩
abbrev S512x1 : Shape := ⟨2, ![512, 1]⟩
abbrev S512 : Shape := ⟨1, ![512]⟩
abbrev S1x23040 : Shape := ⟨2, ![1, 23040]⟩
abbrev S16384x11520 : Shape := ⟨2, ![16384, 11520]⟩
abbrev S16384x90 : Shape := ⟨2, ![16384, 90]⟩
abbrev S1024x3712 : Shape := ⟨2, ![1024, 3712]⟩
abbrev S1024x1 : Shape := ⟨2, ![1024, 1]⟩
abbrev S256x3712 : Shape := ⟨2, ![256, 3712]⟩
abbrev S1x256 : Shape := ⟨2, ![1, 256]⟩
abbrev S1024x256 : Shape := ⟨2, ![1024, 256]⟩
abbrev S1024x90 : Shape := ⟨2, ![1024, 90]⟩
abbrev S1024x128 : Shape := ⟨2, ![1024, 128]⟩
abbrev S1024 : Shape := ⟨1, ![1024]⟩
abbrev S2x8192x11520 : Shape := ⟨3, ![2, 8192, 11520]⟩
abbrev S2x8192x90 : Shape := ⟨3, ![2, 8192, 90]⟩
abbrev S2x8192x1 : Shape := ⟨3, ![2, 8192, 1]⟩

abbrev nBuf : Space → Nat
  | .hbm => 13
  | .vmem => 22
  | .smem => 0
  | _ => 0

abbrev bufTy : (tb : Table) → Fin (tcTables nBuf tb) → BufTy
  | .hbm, ⟨0, _⟩ => ⟨S2x8192x3712, .bf16⟩
  | .hbm, ⟨1, _⟩ => ⟨S23040x3712, .fp8e4m3⟩
  | .hbm, ⟨2, _⟩ => ⟨S23040, .f32⟩
  | .hbm, ⟨3, _⟩ => ⟨S16384x3712, .bf16⟩
  | .hbm, ⟨4, _⟩ => ⟨S16384x3712, .fp8e4m3⟩
  | .hbm, ⟨5, _⟩ => ⟨S16384x1, .f32⟩
  | .hbm, ⟨6, _⟩ => ⟨S1x23040, .f32⟩
  | .hbm, ⟨7, _⟩ => ⟨S16384x11520, .fp8e4m3⟩
  | .hbm, ⟨8, _⟩ => ⟨S16384x90, .f32⟩
  | .hbm, ⟨9, _⟩ => ⟨S2x8192x11520, .fp8e4m3⟩
  | .hbm, ⟨10, _⟩ => ⟨S2x8192x90, .f32⟩
  | .hbm, ⟨11, _⟩ => ⟨S2x8192x3712, .fp8e4m3⟩
  | .hbm, ⟨12, _⟩ => ⟨S2x8192x1, .f32⟩
  | .local _ .vmem, ⟨0, _⟩ => ⟨S512x3712, .bf16⟩
  | .local _ .vmem, ⟨1, _⟩ => ⟨S512x3712, .bf16⟩
  | .local _ .vmem, ⟨2, _⟩ => ⟨S512x3712, .fp8e4m3⟩
  | .local _ .vmem, ⟨3, _⟩ => ⟨S512x3712, .fp8e4m3⟩
  | .local _ .vmem, ⟨4, _⟩ => ⟨S512x1, .f32⟩
  | .local _ .vmem, ⟨5, _⟩ => ⟨S512x1, .f32⟩
  | .local _ .vmem, ⟨6, _⟩ => ⟨S1024x3712, .fp8e4m3⟩
  | .local _ .vmem, ⟨7, _⟩ => ⟨S1024x3712, .fp8e4m3⟩
  | .local _ .vmem, ⟨8, _⟩ => ⟨S1024x1, .f32⟩
  | .local _ .vmem, ⟨9, _⟩ => ⟨S1024x1, .f32⟩
  | .local _ .vmem, ⟨10, _⟩ => ⟨S256x3712, .fp8e4m3⟩
  | .local _ .vmem, ⟨11, _⟩ => ⟨S256x3712, .fp8e4m3⟩
  | .local _ .vmem, ⟨12, _⟩ => ⟨S256x3712, .fp8e4m3⟩
  | .local _ .vmem, ⟨13, _⟩ => ⟨S256x3712, .fp8e4m3⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .fp8e4m3⟩
  | .local _ .vmem, ⟨19, _⟩ => ⟨S1024x256, .fp8e4m3⟩
  | .local _ .vmem, ⟨20, _⟩ => ⟨S1024x90, .f32⟩
  | .local _ .vmem, ⟨21, _⟩ => ⟨S1024x90, .f32⟩
  | _, _ => ⟨S2x8192x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3712 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 45], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c45_i32 : BitVec 32 := 45#32
  let v0 : BitVec 32 := Scalar.addi arg1 c45_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c45_i32 : BitVec 32 := 45#32
  let v0 : BitVec 32 := Scalar.addi arg1 c45_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3712 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x3712 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x3712 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x90 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2x8192x3712 : Shape := ⟨3, ![2, 8192, 3712]⟩
abbrev S23040x3712 : Shape := ⟨2, ![23040, 3712]⟩
abbrev S23040 : Shape := ⟨1, ![23040]⟩
abbrev S2x8192x11520 : Shape := ⟨3, ![2, 8192, 11520]⟩
abbrev S2x8192x90 : Shape := ⟨3, ![2, 8192, 90]⟩
abbrev S2x8192x1 : Shape := ⟨3, ![2, 8192, 1]⟩
abbrev S2x8192 : Shape := ⟨2, ![2, 8192]⟩
abbrev S16384x3712 : Shape := ⟨2, ![16384, 3712]⟩
abbrev S16384x23040 : Shape := ⟨2, ![16384, 23040]⟩
abbrev S2x8192x23040 : Shape := ⟨3, ![2, 8192, 23040]⟩
abbrev S1x1x23040 : Shape := ⟨3, ![1, 1, 23040]⟩
abbrev S2x8192x90x128 : Shape := ⟨4, ![2, 8192, 90, 128]⟩
abbrev S2x8192x90x1 : Shape := ⟨4, ![2, 8192, 90, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x8192x3712, .bf16⟩
  | .hbm, ⟨1, _⟩ => ⟨S23040x3712, .fp8e4m3⟩
  | .hbm, ⟨2, _⟩ => ⟨S23040, .f32⟩
  | .hbm, ⟨3, _⟩ => ⟨S2x8192x11520, .fp8e4m3⟩
  | .hbm, ⟨4, _⟩ => ⟨S2x8192x90, .f32⟩
  | .hbm, ⟨5, _⟩ => ⟨S2x8192x3712, .fp8e4m3⟩
  | .hbm, ⟨6, _⟩ => ⟨S2x8192x1, .f32⟩
  | .local _ .vmem, ⟨0, _⟩ => ⟨S2x8192x3712, .bf16⟩
  | .local _ .vmem, ⟨1, _⟩ => ⟨S23040x3712, .fp8e4m3⟩
  | .local _ .vmem, ⟨2, _⟩ => ⟨S23040, .f32⟩
  | .local _ .vmem, ⟨3, _⟩ => ⟨S2x8192x11520, .fp8e4m3⟩
  | .local _ .vmem, ⟨4, _⟩ => ⟨S2x8192x90, .f32⟩
  | .local _ .vmem, ⟨5, _⟩ => ⟨S2x8192x3712, .fp8e4m3⟩
  | .local _ .vmem, ⟨6, _⟩ => ⟨S2x8192x1, .f32⟩
  | _, _ => ⟨S2x8192x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8192x3712 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23040x3712 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S23040 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x11520 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x3712 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Quantise.lean ====
/- The first call (the row quantiser) of the kernel at any float algebra: what its body leaves in the two output
   blocks, the body's triple, the proof data of its pipeline and the body obligation. The contents `V` of the
   TensorCore's buffers when the call is entered are a parameter. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the quantiser at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x3712 := Rect.unit (s := S512x3712) ![0, 0] S512x3712.size inb_S512x3712_S512x3712_0_0
abbrev r0_1 : Rect S512x1 := Rect.unit (s := S512x1) ![0, 0] S512x1.size inb_S512x1_S512x1_0_0

/-- The codes the quantiser leaves for a block of rows. -/
def out0_1 (x0 : Vec F S512x3712 .bf16) : Vec F S512x3712 .fp8e4m3 :=
  View.canon [⟨r0_0, k0_pay4 (k0_pay5 (View.ld x0 r0_0)) (k0_pay6 (View.ld x0 r0_0)) (k0_pay7 (View.ld x0 r0_0)) (k0_pay8 (View.ld x0 r0_0))⟩]

theorem cover0_1 (p0 : Vec F S512x3712 .fp8e4m3) (y : S512x3712.Idx) :
    ∃ pc ∈ ([⟨r0_0, p0⟩] : List (View.Piece (Elt F) S512x3712 .fp8e4m3)), y ∈ pc.1.set :=
  View.cover_of_tiled [⟨r0_0, p0⟩] S512x3712.size (by rfl) y

/-- The scales the quantiser leaves for a block of rows. -/
def out0_2 (x0 : Vec F S512x3712 .bf16) : Vec F S512x1 .f32 :=
  View.canon [⟨r0_1, k0_pay3 (k0_pay6 (View.ld x0 r0_0)) (k0_pay7 (View.ld x0 r0_0)) (k0_pay8 (View.ld x0 r0_0))⟩]

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The quantiser's body on whole staging buffers, the input's at contents `x0`: it leaves `out0_1 x0` and `out0_2 x0`. -/
theorem sound_kernel0 (c : Dev nD) (E : Set ℕ) (i : grid0.Coords) (arg1 : Memref sig .tc .vmem S512x3712 .bf16) (harg1 : arg1.IsWhole) (arg2 : Memref sig .tc .vmem S512x3712 .fp8e4m3) (harg2 : arg2.IsWhole) (arg3 : Memref sig .tc .vmem S512x1 .f32) (harg3 : arg3.IsWhole)
    (x0 : Vec F S512x3712 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quantise_kernel i arg1 harg1 arg2 harg2 arg3 harg3) K := by
  simp only [cc0__quantise_kernel_eq_skeleton]; unfold cc0__quantise_kernel_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-- The proof data of the quantiser's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the quantiser's body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.Kernel.Run

end
-- ==== Proof.Kernel.Geglu.lean ====
/- The second call (gated-GELU product and requantisation) of the kernel at any float algebra: what its body leaves in
   the two output blocks (the scales' block also from what it finds there, since one block is filled over 45 points),
   the body's triple, the relational proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S1024x3712 := Rect.unit (s := S1024x3712) ![0, 0] S1024x3712.size inb_S1024x3712_S1024x3712_0_0
abbrev r1_1 : Rect S1024x1 := Rect.unit (s := S1024x1) ![0, 0] S1024x1.size inb_S1024x1_S1024x1_0_0
abbrev r1_2 : Rect S256x3712 := Rect.unit (s := S256x3712) ![0, 0] S256x3712.size inb_S256x3712_S256x3712_0_0
abbrev r1_4 : Rect S1x256 := Rect.unit (s := S1x256) ![0, 0] S1x256.size inb_S1x256_S1x256_0_0
abbrev r1_7 : Rect S1024x90 := Rect.unit (s := S1024x90) ![0, 0] S1024x90.size inb_S1024x90_S1024x90_0_0
abbrev r1_6a : Rect S1024x256 := Rect.unit (s := S1024x256) ![0, 0] S1024x128.size inb_S1024x256_S1024x128_0_0
abbrev r1_6b : Rect S1024x256 := Rect.unit (s := S1024x256) ![0, 128] S1024x128.size inb_S1024x256_S1024x128_0_128

/-- The activations `h` of the block, all 256 columns. -/
def hAll (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : FVec F S1024x256 .f32 :=
  k1_pay4 (View.ld x0 r1_0) (View.ld x2 r1_2) (View.ld x3 r1_2) (View.ld x1 r1_1) (View.ld x4 r1_4) (View.ld x5 r1_4)
/-- The first 128 columns of them. -/
def hLo (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : FVec F S1024x128 .f32 :=
  k1_pay6 (View.ld x0 r1_0) (View.ld x2 r1_2) (View.ld x3 r1_2) (View.ld x1 r1_1) (View.ld x4 r1_4) (View.ld x5 r1_4)
/-- The exponent bits of the second group's scaled row maxima. -/
def bitsHi (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : IVec S1024x1 32 :=
  k1_pay18 (k1_pay15 (hAll x0 x1 x2 x3 x4 x5)) k1_pay16 k1_pay17

/-- The codes the body leaves. -/
def out1_6 (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : Vec F S1024x256 .fp8e4m3 :=
  View.canon [⟨r1_6b, k1_pay2 (k1_pay14 (hAll x0 x1 x2 x3 x4 x5)) (bitsHi x0 x1 x2 x3 x4 x5) k1_pay19⟩,
    ⟨r1_6a, k1_pay12 (hLo x0 x1 x2 x3 x4 x5) (k1_pay8 (hLo x0 x1 x2 x3 x4 x5)) (k1_pay9 (hLo x0 x1 x2 x3 x4 x5))⟩]

theorem cover1_6 (p0 p1 : Vec F S1024x128 .fp8e4m3) (y : S1024x256.Idx) :
    ∃ pc ∈ ([⟨r1_6b, p0⟩, ⟨r1_6a, p1⟩] : List (View.Piece (Elt F) S1024x256 .fp8e4m3)), y ∈ pc.1.set :=
  View.cover_of_tiled [⟨r1_6b, p0⟩, ⟨r1_6a, p1⟩] S1024x128.size (by rfl) y

/-- The scales the body leaves at column block `n`, from what it finds there, `y`. -/
def out1_7 (n : BitVec 32) (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) (y : Vec F S1024x90 .f32) : Vec F S1024x90 .f32 :=
  View.canon [⟨r1_7, k1_pay3 n (iota .tc S1024x90 32 [1] iota_S1024x90_d1_w32)
    (k1_pay13 n (iota .tc S1024x90 32 [1] iota_S1024x90_d1_w32) (k1_pay5 (View.ld y r1_7)) (k1_pay8 (hLo x0 x1 x2 x3 x4 x5)) (k1_pay9 (hLo x0 x1 x2 x3 x4 x5)))
    (bitsHi x0 x1 x2 x3 x4 x5) k1_pay19⟩]

theorem cover1_7 (p0 : Vec F S1024x90 .f32) (y : S1024x90.Idx) :
    ∃ pc ∈ ([⟨r1_7, p0⟩] : List (View.Piece (Elt F) S1024x90 .f32)), y ∈ pc.1.set :=
  View.cover_of_tiled [⟨r1_7, p0⟩] S1024x90.size (by rfl) y

set_option maxHeartbeats 2000000 in
/-- The body on whole staging buffers, the inputs' at contents `x0 … x5` and the scales' at `y`. -/
theorem sound_kernel1 (c : Dev nD) (E : Set ℕ) (i : grid1.Coords) (arg2 : Memref sig .tc .vmem S1024x3712 .fp8e4m3) (harg2 : arg2.IsWhole) (arg3 : Memref sig .tc .vmem S1024x1 .f32) (harg3 : arg3.IsWhole) (arg4 : Memref sig .tc .vmem S256x3712 .fp8e4m3) (harg4 : arg4.IsWhole) (arg5 : Memref sig .tc .vmem S256x3712 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .fp8e4m3) (harg8 : arg8.IsWhole) (arg9 : Memref sig .tc .vmem S1024x90 .f32) (harg9 : arg9.IsWhole)
    (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) (y : Vec F S1024x90 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5) ∗ owns (c : Thread nD τ) arg9 fullShare (out1_7 (BitVec.ofNat 32 (i 1).val) x0 x1 x2 x3 x4 x5 y)) -∗ K ⟨⟩))
      ⊢ wp frame (wpE (defs₀ (F := F)) Variants.none c none) E (cc1__geglu_kernel i arg2 harg2 arg3 harg3 arg4 harg4 arg5 harg5 arg6 harg6 arg7 harg7 arg8 harg8 arg9 harg9) K := by
  simp only [cc1__geglu_kernel_eq_skeleton]; unfold cc1__geglu_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _ _)).trans ?_
    rfl
  iexists _; isplitr
  swap; · iexact H7
  ipureintro
  refine (View.read_writes_eq_canon _ _ _ (cover1_7 _)).trans ?_
  rfl

/-! ## The pipeline's proof data -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The column block of point `t`, as the body sees it. -/
def colOf (t : Fin cfg1.N) : BitVec 32 := BitVec.ofNat 32 (grid1.coords t 1).val

/-- The codes left at point `t`. -/
def codes1 (c : Dev nD) (t : Fin cfg1.N) : Vec F S1024x256 .fp8e4m3 :=
  out1_6 (iblk1 V c 0 t) (iblk1 V c 1 t) (iblk1 V c 2 t) (iblk1 V c 3 t) (iblk1 V c 4 t) (iblk1 V c 5 t)
/-- The scales left at point `t` where `y` was found. -/
def scales1 (c : Dev nD) (t : Fin cfg1.N) (y : Vec F S1024x90 .f32) : Vec F S1024x90 .f32 :=
  out1_7 (colOf t) (iblk1 V c 0 t) (iblk1 V c 1 t) (iblk1 V c 2 t) (iblk1 V c 3 t) (iblk1 V c 4 t) (iblk1 V c 5 t) y

/-- The proof data with the scales' window unnamed: the inputs keep their blocks, the codes are `codes1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codes1 V c t
    | ⟨7, _⟩ => fun _ => Classical.arbitrary _
  Φ _ := Pipeline.ΦA spec1 c
  q w := Pipeline.shareOf spec1 w
  owed _ := 0

/-- The scales' window is held to its step from what was found. -/
def ovr1 (c : Dev nD) (w : Fin cfg1.W) : Option (Fin cfg1.N → (Y X : (cfg1.win w).block.Idx → Elt F (cfg1.win w).elt) → Prop) :=
  match w with
  | ⟨7, _⟩ => some fun t Y X => X = scales1 V c t Y
  | _ => none

/-- The relational proof data of the second call. -/
def rd1 (c : Dev nD) : RDat τ (Elt F) Unit ℕ (UR sig nD τ) ℕ cfg1 c := (dat1 V c).toR.override (ovr1 V c)

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codes1 V c t := by dsimp only [dat1]

theorem finds1_0 (c : Dev nD) (t : Fin cfg1.N) (Y) (h : (rd1 V c).Finds 0 t Y) : Y = iblk1 V c 0 t := by
  obtain ⟨d, hd⟩ := (dat1 V c).toR_finds 0 t Y (((dat1 V c).toR.override_finds (ovr := ovr1 V c) rfl t Y).mp h)
  rw [hd]; exact before1_0_of V (dat1 V c) (A_eq1 V c 0) (after1_0 V c) t d
theorem finds1_1 (c : Dev nD) (t : Fin cfg1.N) (Y) (h : (rd1 V c).Finds 1 t Y) : Y = iblk1 V c 1 t := by
  obtain ⟨d, hd⟩ := (dat1 V c).toR_finds 1 t Y (((dat1 V c).toR.override_finds (ovr := ovr1 V c) rfl t Y).mp h)
  rw [hd]; exact before1_1_of V (dat1 V c) (A_eq1 V c 1) (after1_1 V c) t d
theorem finds1_2 (c : Dev nD) (t : Fin cfg1.N) (Y) (h : (rd1 V c).Finds 2 t Y) : Y = iblk1 V c 2 t := by
  obtain ⟨d, hd⟩ := (dat1 V c).toR_finds 2 t Y (((dat1 V c).toR.override_finds (ovr := ovr1 V c) rfl t Y).mp h)
  rw [hd]; exact before1_2_of V (dat1 V c) (A_eq1 V c 2) (after1_2 V c) t d
theorem finds1_3 (c : Dev nD) (t : Fin cfg1.N) (Y) (h : (rd1 V c).Finds 3 t Y) : Y = iblk1 V c 3 t := by
  obtain ⟨d, hd⟩ := (dat1 V c).toR_finds 3 t Y (((dat1 V c).toR.override_finds (ovr := ovr1 V c) rfl t Y).mp h)
  rw [hd]; exact before1_3_of V (dat1 V c) (A_eq1 V c 3) (after1_3 V c) t d
theorem finds1_4 (c : Dev nD) (t : Fin cfg1.N) (Y) (h : (rd1 V c).Finds 4 t Y) : Y = iblk1 V c 4 t := by
  obtain ⟨d, hd⟩ := (dat1 V c).toR_finds 4 t Y (((dat1 V c).toR.override_finds (ovr := ovr1 V c) rfl t Y).mp h)
  rw [hd]; exact before1_4_of V (dat1 V c) (A_eq1 V c 4) (after1_4 V c) t d
theorem finds1_5 (c : Dev nD) (t : Fin cfg1.N) (Y) (h : (rd1 V c).Finds 5 t Y) : Y = iblk1 V c 5 t := by
  obtain ⟨d, hd⟩ := (dat1 V c).toR_finds 5 t Y (((dat1 V c).toR.override_finds (ovr := ovr1 V c) rfl t Y).mp h)
  rw [hd]; exact before1_5_of V (dat1 V c) (A_eq1 V c 5) (after1_5 V c) t d
theorem rafter1_0 (c : Dev nD) (t : Fin cfg1.N) (Y) : (rd1 V c).after 0 t Y ((dat1 V c).after 0 t) := by
  unfold rd1; rw [(dat1 V c).toR.override_after_of_eq_none (ovr := ovr1 V c) rfl]
  show (dat1 V c).Leaves 0 t _
  exact rfl
theorem rafter1_1 (c : Dev nD) (t : Fin cfg1.N) (Y) : (rd1 V c).after 1 t Y ((dat1 V c).after 1 t) := by
  unfold rd1; rw [(dat1 V c).toR.override_after_of_eq_none (ovr := ovr1 V c) rfl]
  show (dat1 V c).Leaves 1 t _
  exact rfl
theorem rafter1_2 (c : Dev nD) (t : Fin cfg1.N) (Y) : (rd1 V c).after 2 t Y ((dat1 V c).after 2 t) := by
  unfold rd1; rw [(dat1 V c).toR.override_after_of_eq_none (ovr := ovr1 V c) rfl]
  show (dat1 V c).Leaves 2 t _
  exact rfl
theorem rafter1_3 (c : Dev nD) (t : Fin cfg1.N) (Y) : (rd1 V c).after 3 t Y ((dat1 V c).after 3 t) := by
  unfold rd1; rw [(dat1 V c).toR.override_after_of_eq_none (ovr := ovr1 V c) rfl]
  show (dat1 V c).Leaves 3 t _
  exact rfl
theorem rafter1_4 (c : Dev nD) (t : Fin cfg1.N) (Y) : (rd1 V c).after 4 t Y ((dat1 V c).after 4 t) := by
  unfold rd1; rw [(dat1 V c).toR.override_after_of_eq_none (ovr := ovr1 V c) rfl]
  show (dat1 V c).Leaves 4 t _
  exact rfl
theorem rafter1_5 (c : Dev nD) (t : Fin cfg1.N) (Y) : (rd1 V c).after 5 t Y ((dat1 V c).after 5 t) := by
  unfold rd1; rw [(dat1 V c).toR.override_after_of_eq_none (ovr := ovr1 V c) rfl]
  show (dat1 V c).Leaves 5 t _
  exact rfl
theorem rafter1_6 (c : Dev nD) (t : Fin cfg1.N) (Y) : (rd1 V c).after 6 t Y ((dat1 V c).after 6 t) := by
  unfold rd1; rw [(dat1 V c).toR.override_after_of_eq_none (ovr := ovr1 V c) rfl]
  show (dat1 V c).Leaves 6 t _
  exact rfl
theorem rafter1_7 (c : Dev nD) (t : Fin cfg1.N) (Y) : (rd1 V c).after 7 t Y (scales1 V c t Y) := by
  unfold rd1; rw [(dat1 V c).toR.override_after_of_eq_some (ovr := ovr1 V c) (w := 7) rfl]

/-- What the body is called with at point `t`, the windows one by one, -/
def bodyPre1 (c : Dev nD) (t : Fin cfg1.N) (Y : (w : Fin cfg1.W) → (cfg1.win w).block.Idx → Elt F (cfg1.win w).elt) : sProp 𝕄 :=
  iprop((rd1 V c).Φ t.castSucc ∗ (rd1 V c).owesAt () t.castSucc
    ∗ owns (c : Thread nD τ) (st1_0 t) fullShare (Y 0) ∗ owns (c : Thread nD τ) (st1_1 t) fullShare (Y 1) ∗ owns (c : Thread nD τ) (st1_2 t) fullShare (Y 2) ∗ owns (c : Thread nD τ) (st1_3 t) fullShare (Y 3) ∗ owns (c : Thread nD τ) (st1_4 t) fullShare (Y 4) ∗ owns (c : Thread nD τ) (st1_5 t) fullShare (Y 5) ∗ owns (c : Thread nD τ) (st1_6 t) fullShare (Y 6) ∗ owns (c : Thread nD τ) (st1_7 t) fullShare (Y 7))

/-- and what it returns. -/
def bodyPost1 (c : Dev nD) (t : Fin cfg1.N) (Y : (w : Fin cfg1.W) → (cfg1.win w).block.Idx → Elt F (cfg1.win w).elt) : sProp 𝕄 :=
  iprop((rd1 V c).Φ t.succ ∗ (rd1 V c).owesAt () t.succ
    ∗ (∃ X, ⌜(rd1 V c).after 0 t (Y 0) X⌝ ∗ owns (c : Thread nD τ) (st1_0 t) fullShare X) ∗ (∃ X, ⌜(rd1 V c).after 1 t (Y 1) X⌝ ∗ owns (c : Thread nD τ) (st1_1 t) fullShare X) ∗ (∃ X, ⌜(rd1 V c).after 2 t (Y 2) X⌝ ∗ owns (c : Thread nD τ) (st1_2 t) fullShare X) ∗ (∃ X, ⌜(rd1 V c).after 3 t (Y 3) X⌝ ∗ owns (c : Thread nD τ) (st1_3 t) fullShare X) ∗ (∃ X, ⌜(rd1 V c).after 4 t (Y 4) X⌝ ∗ owns (c : Thread nD τ) (st1_4 t) fullShare X) ∗ (∃ X, ⌜(rd1 V c).after 5 t (Y 5) X⌝ ∗ owns (c : Thread nD τ) (st1_5 t) fullShare X) ∗ (∃ X, ⌜(rd1 V c).after 6 t (Y 6) X⌝ ∗ owns (c : Thread nD τ) (st1_6 t) fullShare X) ∗ (∃ X, ⌜(rd1 V c).after 7 t (Y 7) X⌝ ∗ owns (c : Thread nD τ) (st1_7 t) fullShare X))

/-- The body at any point. -/
theorem sound_body1 (c : Dev nD) (t : Fin cfg1.N) (Y : (w : Fin cfg1.W) → (cfg1.win w).block.Idx → Elt F (cfg1.win w).elt)
    (hY : ∀ w, (rd1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [show (rd1 V c).Φ t.succ = (rd1 V c).Φ t.castSucc from rfl,
    show (rd1 V c).owesAt () t.succ = (rd1 V c).owesAt () t.castSucc from rfl]
  iintro ⟨HΦ, Ho, H0, H1, H2, H3, H4, H5, H6, H7⟩
  rw [finds1_0 V c t (Y 0) (hY 0), finds1_1 V c t (Y 1) (hY 1), finds1_2 V c t (Y 2) (hY 2), finds1_3 V c t (Y 3) (hY 3), finds1_4 V c t (Y 4) (hY 4), finds1_5 V c t (Y 5) (hY 5)]
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]
  · iexists _; isplitr
    · ipureintro; exact rafter1_0 V c t _
    rw [after1_0]; iexact H0
  isplitl [H1]
  · iexists _; isplitr
    · ipureintro; exact rafter1_1 V c t _
    rw [after1_1]; iexact H1
  isplitl [H2]
  · iexists _; isplitr
    · ipureintro; exact rafter1_2 V c t _
    rw [after1_2]; iexact H2
  isplitl [H3]
  · iexists _; isplitr
    · ipureintro; exact rafter1_3 V c t _
    rw [after1_3]; iexact H3
  isplitl [H4]
  · iexists _; isplitr
    · ipureintro; exact rafter1_4 V c t _
    rw [after1_4]; iexact H4
  isplitl [H5]
  · iexists _; isplitr
    · ipureintro; exact rafter1_5 V c t _
    rw [after1_5]; iexact H5
  isplitl [H6]
  · iexists _; isplitr
    · ipureintro; exact rafter1_6 V c t _
    rw [after1_6]; iexact H6
  iexists _; isplitr
  · ipureintro; exact rafter1_7 V c t _
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's relational body obligation, at every point. -/
theorem body_obligation1 (c : Dev nD) : (rd1 (F := F) V c).BodyObligation (defs₀ (F := F)) Variants.none () Set.univ := fun t Y hY => by
  rw [bigSep_W1, bigSep_W1, defs₀_row1]
  exact triple_restated (sound_body1 V c t Y hY) rfl .rfl fun _ => .rfl

end Cert.Kernel.Run

end
-- ==== Proof.Kernel.Run.lean ====
/- The run of the whole kernel at any float algebra: the two calls and the host stretches around them as segments of
   @main, the launch over them, every unscoped buffer's contents at the end (`run`), and the frame (`frame`). -/
module

public import proofs.«01_k».proof.Proof.Kernel.Quantise
public import proofs.«01_k».proof.Proof.Kernel.Geglu
public import proofs.«01_k».proof.Proof.Gen.Kernel.Regions
public import Idealize.ShloMosaic.Lib.Pipeline.RegionsLoop
public import Idealize.ShloMosaic.Lib.Pipeline.RegionsOwned
public import Idealize.ShloMosaic.Lib.Pipeline.FrameSuffix
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch, -/
abbrev W0 (c : Dev nD) : Valuation τ sig (Elt F) := fun b => m (c, b)
/-- after the host stretch before the first call, -/
abbrev W1 (c : Dev nD) : Valuation τ sig (Elt F) := StableHlo.after hostOps0 (W0 m c)
/-- the TensorCore's, as the first call finds them, -/
abbrev E0 (c : Dev nD) (b : Ref sig .tc) : Buf (Elt F) ((c : Thread nD τ).loc b) := W1 m c b
/-- after the first call, -/
def W2 (c : Dev nD) : Valuation τ sig (Elt F) :=
  Pipeline.withArrays spec0 c (W1 m c) fun w => (dat0 (E0 m) c).arrAt w cfg0.N
/-- after the host stretch between the calls, -/
abbrev W3 (c : Dev nD) : Valuation τ sig (Elt F) := StableHlo.after hostOps1 (W2 m c)
/-- the TensorCore's, as the second call finds them. -/
abbrev E1 (c : Dev nD) (b : Ref sig .tc) : Buf (Elt F) ((c : Thread nD τ).loc b) := W3 m c b
/-- What the second call may leave in its windows' arrays. -/
def Γ (c : Dev nD) : Type :=
  {A : (w : Fin cfg1.W) → Buf (Elt F) ((cfg1.win w).arr.view.loc (c.tc : Thread nD τ)) // ∀ w, (rd1 (E1 m) c).ArrAt w cfg1.N (A w)}
/-- Core `c`'s buffers after the second call, when that left `γ`, -/
def W4 (c : Dev nD) (γ : Γ m c) : Valuation τ sig (Elt F) :=
  Pipeline.withArrays spec1 c (W3 m c) γ.1
/-- and at the end. -/
abbrev W5 (c : Dev nD) (γ : Γ m c) : Valuation τ sig (Elt F) := StableHlo.after hostOps2 (W4 m c γ)

/-! ## The records of the two calls -/

/-- The exact proof data of the two calls (the second's with its scales unnamed). -/
def pdats : (p : Fin 2) → (c : Dev nD) → Dat τ (Elt F) Unit ℕ (UR sig nD τ) ℕ (cfgs p) c
  | ⟨0, _⟩, c => dat0 (E0 m) c
  | ⟨1, _⟩, c => dat1 (E1 m) c
/-- The relational proof data of the two calls. -/
def rdats : (p : Fin 2) → (c : Dev nD) → RDat τ (Elt F) Unit ℕ (UR sig nD τ) ℕ (cfgs p) c
  | ⟨0, _⟩, c => (dat0 (E0 m) c).toR
  | ⟨1, _⟩, c => rd1 (E1 m) c

abbrev 𝒱₀ : Variants := Variants.none
abbrev L : GSem nD τ sig → Finset Unit := fun _ => ∅
abbrev lv : GSem nD τ sig → Unit → ℕ := fun _ _ => 0

/-- What rides along through every item: the generator register and the core owing nothing. -/
abbrev R (c : Dev nD) : sProp 𝕄 := iprop((∃ r, prngReg c r) ∗ ∃ W, owes (c : Thread nD τ) (0 : CellTallies nD τ sig Unit) W)

theorem arrRef1_eq {w w' : Fin cfg1.W} (hne : w ≠ w') (e : Pipeline.arrRef spec1 w = Pipeline.arrRef spec1 w') : (cfg1.win w).isOut = false := by
  revert w w'; decide

theorem γ_in (c : Dev nD) (γ : Γ m c) (w : Fin cfg1.W) (h : (cfg1.win w).isOut = false) : γ.1 w = W3 m c (Proc.devRef .tc (Pipeline.arrRef spec1 w)) :=
  (congrFun ((rd1 (E1 m) c).ArrAt_in w h _) _).mp (γ.2 w)

theorem W4_arr (c : Dev nD) (γ : Γ m c) (w : Fin cfg1.W) : W4 m c γ (Proc.devRef .tc (Pipeline.arrRef spec1 w)) = γ.1 w :=
  Pipeline.withArrays_arr_shared spec1 c _ _ (fun w w' hne e => γ_in m c γ w (arrRef1_eq hne e)) w

theorem W4_of_ne (c : Dev nD) (γ : Γ m c) (b : Ref sig .tc) (hb : ∀ w, Pipeline.arrRef spec1 w ≠ b) : W4 m c γ (Proc.devRef .tc b) = W3 m c (Proc.devRef .tc b) :=
  Pipeline.withArrays_of_ne spec1 c _ _ b hb

theorem W2_arr (c : Dev nD) (w : Fin cfg0.W) : W2 m c (Proc.devRef .tc (Pipeline.arrRef spec0 w)) = (dat0 (E0 m) c).arrAt w cfg0.N :=
  Pipeline.withArrays_arr spec0 launch0.win.arr_inj c _ _ w

theorem W2_of_ne (c : Dev nD) (b : Ref sig .tc) (hb : ∀ w, Pipeline.arrRef spec0 w ≠ b) : W2 m c (Proc.devRef .tc b) = W1 m c (Proc.devRef .tc b) :=
  Pipeline.withArrays_of_ne spec0 c _ _ b hb

set_option backward.isDefEq.respectTransparency.types false in
/-- The first call as a segment of @main. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (A_eq0 (E0 m) c)
    rw [Pipeline.unscopedBufs_held] at hsplit
    replace hsplit : (StableHlo.held (c : Thread nD τ) (Pipeline.ucRefs τ sig) (W1 m c) : sProp 𝕄) ⊢ iprop((rdats m 0 c).arrays (rdats m 0 c).A
        ∗ Pipeline.unscopedRest (Ix := Unit) (Name := ℕ) (U := UR sig nD τ) (Lvl := ℕ) spec0 c (E0 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W2 m c b) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    replace hjoin : iprop((dat0 (E0 m) c).arrays ((dat0 (E0 m) c).arrAt · cfg0.N)
        ∗ Pipeline.unscopedRest (Ix := Unit) (Name := ℕ) (U := UR sig nD τ) (Lvl := ℕ) spec0 c (E0 m c)) ⊢ (StableHlo.held (c : Thread nD τ) (Pipeline.ucRefs τ sig) (W2 m c) : sProp 𝕄) := hjoin
    refine (sep_mono (Entails.of_eq ((dat0 (E0 m) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The second call's arrays at the end: some contents they may hold. -/
theorem arraysAt_open1 (c : Dev nD) : ((rd1 (E1 m) c).arraysAt cfg1.N : sProp 𝕄)
    ⊢ iprop(∃ γ : Γ m c, (dat1 (E1 m) c).arrays γ.1) := by
  unfold RDat.arraysAt Dat.arrays
  refine (BI.bigSep_exists_pi Finset.univ _).trans ?_
  iintro ⟨%A, H⟩
  ihave H' := (BI.bigSep_pure_sep Finset.univ (fun w => (rd1 (E1 m) c).ArrAt w cfg1.N (A w)) _) $$ H
  icases H' with ⟨%hA, H⟩
  iexists (⟨A, fun w => hA w (Finset.mem_univ w)⟩ : Γ m c)
  iexact H

set_option backward.isDefEq.respectTransparency.types false in
/-- The second call as a segment of @main. -/
def reg1 : Pipeline.RDat.RegionSeg (pcfgs (F := F)) adm (rdats m) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (E1 m) c
  hwaits := Pipeline.RDat.hwaits_of_owed_zero _ _ _ _ L lv 1 fun _ _ => rfl
  pre c := iprop(StableHlo.held (c : Thread nD τ) (Pipeline.ucRefs τ sig) (W3 m c) ∗ R c)
  post c := iprop((∃ γ : Γ m c, StableHlo.held (c : Thread nD τ) (Pipeline.ucRefs τ sig) (W4 m c γ)) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (E1 m c) (A_eq1 (E1 m) c)
    rw [Pipeline.unscopedBufs_held] at hsplit
    replace hsplit : (StableHlo.held (c : Thread nD τ) (Pipeline.ucRefs τ sig) (W3 m c) : sProp 𝕄) ⊢ iprop((rdats m 1 c).arrays (rdats m 1 c).A
        ∗ Pipeline.unscopedRest (Ix := Unit) (Name := ℕ) (U := UR sig nD τ) (Lvl := ℕ) spec1 c (E1 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun γ : Γ m c => Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (E1 m c) (fun b => W4 m c γ b) γ.1 (fun w => (W4_arr m c γ w).symm)
      (fun b hb => W4_of_ne m c γ b fun w e => hb (Finset.mem_image.mpr ⟨w, Finset.mem_univ _, e⟩))
    refine (sep_mono (arraysAt_open1 m c) .rfl).trans ?_
    iintro ⟨⟨%γ, Ha⟩, HO, HY, Hrest⟩
    have hj := hjoin γ
    rw [Pipeline.unscopedBufs_held] at hj
    replace hj : iprop((dat1 (E1 m) c).arrays γ.1
        ∗ Pipeline.unscopedRest (Ix := Unit) (Name := ℕ) (U := UR sig nD τ) (Lvl := ℕ) spec1 c (E1 m c)) ⊢ (StableHlo.held (c : Thread nD τ) (Pipeline.ucRefs τ sig) (W4 m c γ) : sProp 𝕄) := hj
    imodintro
    isplitl [Ha Hrest]
    · iexists γ
      iapply hj; isplitl [Ha] <;> iassumption
    isplitl [HY]; · iexact HY
    unfold Pipeline.RDat.owesAt Pipeline.owesWithin
    icases HO with ⟨%W, -, HO⟩; iexists W; iexact HO

/-! ## The host stretches, and the run -/

def hseg0 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
def hseg1 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def hseg2 : Pipeline.HostSeg (Ix := Unit) (Name := ℕ) (U := UR sig nD τ) (Lvl := ℕ) (pcfgs (F := F)) defs₀ 𝒱₀ L lv :=
  Pipeline.HostSeg.ofOpsEx _ _ _ _ _ (Γ := Γ m) (Pipeline.ucRefs τ sig) hostOps2
    (fun op h => Pipeline.sub_ucRefs op ((List.forall_iff_forall_mem.mp hostOps2_sub) op h))
    (fun op h => (List.forall_iff_forall_mem.mp hostOps2_fresh) op h) (W4 m) R

/-- The segments of @main in order. -/
abbrev segs : List (Pipeline.RDat.Seg (pcfgs (F := F)) adm (rdats m) () defs₀ 𝒱₀ L lv) :=
  [.host (hseg0 m), .region (reg0 m), .host (hseg1 m), .region (reg1 m), .host (hseg2 m)]

/-- The last thread state: every unscoped buffer at `W5` for something the second call may have left. -/
abbrev Tₙ (c : Dev nD) : sProp 𝕄 := iprop((∃ γ : Γ m c, StableHlo.held (c : Thread nD τ) (Pipeline.ucRefs τ sig) (W5 m c γ)) ∗ ∃ r, prngReg c r)

theorem last_link (c : Dev nD) : (Pipeline.RDat.Seg.host (rdats := rdats m) (a := adm) (ι := ()) (hseg2 m)).post c
    ⊢ iprop(Tₙ m c ∗ ∃ W, owes (c : Thread nD τ) (0 : CellTallies nD τ sig Unit) W) := by
  dsimp only [Pipeline.RDat.Seg.post, hseg2, Pipeline.HostSeg.ofOpsEx]
  iintro ⟨Hh, Hp, HO⟩
  isplitl [Hh Hp]
  · isplitl [Hh]; · iexact Hh
    iexact Hp
  iexact HO

set_option backward.isDefEq.respectTransparency.types false in
/-- THE RUN: every weakly fair execution of @main terminates with every semaphore counter at zero and every unscoped
    buffer at `W5`, for something the second call may have left in its arrays. -/
theorem run : θ_run defs (onTc (τ := τ) (main (F := F))) ⟨m, fun _ => 0, ρ⟩ (fun r =>
    (∀ c : Dev nD, ∃ γ : Γ m c, ∀ b ∈ Pipeline.ucRefs τ sig, r.2.mem (((c : Thread nD τ)).1, b) = W5 m c γ b)
      ∧ r.2.sem = fun _ => 0) :=
  Pipeline.RDat.θ_run_regions_kit_sems (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, last_link m⟩)
    (hinit := by
      refine Pipeline.initEach L lv fun c => ?_
      rw [show unscopedBufs c (fun b => m ((c.tc : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m c, ∀ b ∈ Pipeline.ucRefs τ sig, s.mem (((c : Thread nD τ)).1, b) = W5 m c γ b)
    (hfin := fun c s' => by
      iintro ⟨⟨⟨%γ, Hh⟩, -⟩, HSI⟩
      unfold StableHlo.held
      imodintro
      ihave Hr := (pointsTo_read_all (Pipeline.ucRefs τ sig) (fun b => (((c : Thread nD τ)).1, b)) (W5 m c γ) s') $$ [Hh HSI]
      · isplitl [Hh] <;> iassumption
      icases Hr with ⟨%h, HSI⟩
      isplitr; · ipureintro; exact ⟨γ, h⟩
      iexact HSI)
    (hQ := fun _ h hz => ⟨h, funext fun g => hz g (.inr (regions_no_unscoped g.2))⟩)

/-! ## The arguments end as launched -/

theorem mem_uc (b : Ref sig .tc) (h : ¬ b.isScoped) : Proc.devRef .tc b ∈ Pipeline.ucRefs τ sig :=
  Finset.mem_filter.mpr ⟨StableHlo.devRef_mem_tcRefs b, by simpa using h⟩

theorem W5_of (c : Dev nD) (γ : Γ m c) (b : Ref sig .tc) (h : b ∉ hostOps2_W) : W5 m c γ b = W4 m c γ b :=
  StableHlo.after_of_writes_sub hostOps2 _ hostOps2_writes h
theorem W3_of (c : Dev nD) (b : Ref sig .tc) (h : b ∉ hostOps1_W) : W3 m c b = W2 m c b :=
  StableHlo.after_of_writes_sub hostOps1 _ hostOps1_writes h
theorem W1_of (c : Dev nD) (b : Ref sig .tc) (h : b ∉ hostOps0_W) : W1 m c b = W0 m c b :=
  StableHlo.after_of_writes_sub hostOps0 _ hostOps0_writes h

theorem W3_arg (c : Dev nD) (b : Ref sig .tc) (h0 : b ∉ hostOps0_W) (h1 : b ∉ hostOps1_W) (hw : ∀ w, Pipeline.arrRef spec0 w ≠ b) :
    W3 m c b = W0 m c b :=
  (W3_of m c b h1).trans ((W2_of_ne m c b hw).trans (W1_of m c b h0))

theorem W5_main_arg0 (c : Dev nD) (γ : Γ m c) : W5 m c γ main_arg0 = m ((c : Thread nD τ).loc main_arg0) :=
  (W5_of m c γ main_arg0 (by decide)).trans ((W4_of_ne m c γ main_arg0 (by decide)).trans (W3_arg m c main_arg0 (by decide) (by decide) (by decide)))
theorem W5_main_arg1 (c : Dev nD) (γ : Γ m c) : W5 m c γ main_arg1 = m ((c : Thread nD τ).loc main_arg1) :=
  (W5_of m c γ main_arg1 (by decide)).trans ((W4_arr m c γ 2).trans ((γ_in m c γ 2 rfl).trans (W3_arg m c main_arg1 (by decide) (by decide) (by decide))))
theorem W5_main_arg2 (c : Dev nD) (γ : Γ m c) : W5 m c γ main_arg2 = m ((c : Thread nD τ).loc main_arg2) :=
  (W5_of m c γ main_arg2 (by decide)).trans ((W4_of_ne m c γ main_arg2 (by decide)).trans (W3_arg m c main_arg2 (by decide) (by decide) (by decide)))

/-- THE FRAME: the arguments end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => by
    obtain ⟨γ, hγ⟩ := h.1 c
    exact ⟨(hγ _ (mem_uc main_arg0 (by decide))).trans (W5_main_arg0 m c γ),
      (hγ _ (mem_uc main_arg1 (by decide))).trans (W5_main_arg1 m c γ),
      (hγ _ (mem_uc main_arg2 (by decide))).trans (W5_main_arg2 m c γ)⟩, h.2⟩) (run m ρ)

end Cert.Kernel.Run

end
-- ==== Proof.KernelIdeal.Quantise.lean ====
/- The first call (the row quantiser) of the kernel at any float algebra: what its body leaves in the two output
   blocks, the body's triple, the proof data of its pipeline and the body obligation. The contents `V` of the
   TensorCore's buffers when the call is entered are a parameter. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the quantiser at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x3712 := Rect.unit (s := S512x3712) ![0, 0] S512x3712.size inb_S512x3712_S512x3712_0_0
abbrev r0_1 : Rect S512x1 := Rect.unit (s := S512x1) ![0, 0] S512x1.size inb_S512x1_S512x1_0_0

/-- The codes the quantiser leaves for a block of rows. -/
def out0_1 (x0 : Vec F S512x3712 .bf16) : Vec F S512x3712 .fp8e4m3 :=
  View.canon [⟨r0_0, k0_pay4 (k0_pay5 (View.ld x0 r0_0)) (k0_pay6 (View.ld x0 r0_0)) (k0_pay7 (View.ld x0 r0_0)) (k0_pay8 (View.ld x0 r0_0))⟩]

theorem cover0_1 (p0 : Vec F S512x3712 .fp8e4m3) (y : S512x3712.Idx) :
    ∃ pc ∈ ([⟨r0_0, p0⟩] : List (View.Piece (Elt F) S512x3712 .fp8e4m3)), y ∈ pc.1.set :=
  View.cover_of_tiled [⟨r0_0, p0⟩] S512x3712.size (by rfl) y

/-- The scales the quantiser leaves for a block of rows. -/
def out0_2 (x0 : Vec F S512x3712 .bf16) : Vec F S512x1 .f32 :=
  View.canon [⟨r0_1, k0_pay3 (k0_pay6 (View.ld x0 r0_0)) (k0_pay7 (View.ld x0 r0_0)) (k0_pay8 (View.ld x0 r0_0))⟩]

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The quantiser's body on whole staging buffers, the input's at contents `x0`: it leaves `out0_1 x0` and `out0_2 x0`. -/
theorem sound_kernel0 (c : Dev nD) (E : Set ℕ) (i : grid0.Coords) (arg1 : Memref sig .tc .vmem S512x3712 .bf16) (harg1 : arg1.IsWhole) (arg2 : Memref sig .tc .vmem S512x3712 .fp8e4m3) (harg2 : arg2.IsWhole) (arg3 : Memref sig .tc .vmem S512x1 .f32) (harg3 : arg3.IsWhole)
    (x0 : Vec F S512x3712 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quantise_kernel i arg1 harg1 arg2 harg2 arg3 harg3) K := by
  simp only [cc0__quantise_kernel_eq_skeleton]; unfold cc0__quantise_kernel_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-- The proof data of the quantiser's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the quantiser's body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.Geglu.lean ====
/- The second call (gated-GELU product and requantisation) of the kernel at any float algebra: what its body leaves in
   the two output blocks (the scales' block also from what it finds there, since one block is filled over 45 points),
   the body's triple, the relational proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S1024x3712 := Rect.unit (s := S1024x3712) ![0, 0] S1024x3712.size inb_S1024x3712_S1024x3712_0_0
abbrev r1_1 : Rect S1024x1 := Rect.unit (s := S1024x1) ![0, 0] S1024x1.size inb_S1024x1_S1024x1_0_0
abbrev r1_2 : Rect S256x3712 := Rect.unit (s := S256x3712) ![0, 0] S256x3712.size inb_S256x3712_S256x3712_0_0
abbrev r1_4 : Rect S1x256 := Rect.unit (s := S1x256) ![0, 0] S1x256.size inb_S1x256_S1x256_0_0
abbrev r1_7 : Rect S1024x90 := Rect.unit (s := S1024x90) ![0, 0] S1024x90.size inb_S1024x90_S1024x90_0_0
abbrev r1_6a : Rect S1024x256 := Rect.unit (s := S1024x256) ![0, 0] S1024x128.size inb_S1024x256_S1024x128_0_0
abbrev r1_6b : Rect S1024x256 := Rect.unit (s := S1024x256) ![0, 128] S1024x128.size inb_S1024x256_S1024x128_0_128

/-- The activations `h` of the block, all 256 columns. -/
def hAll (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : FVec F S1024x256 .f32 :=
  k1_pay4 (View.ld x0 r1_0) (View.ld x2 r1_2) (View.ld x3 r1_2) (View.ld x1 r1_1) (View.ld x4 r1_4) (View.ld x5 r1_4)
/-- The first 128 columns of them. -/
def hLo (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : FVec F S1024x128 .f32 :=
  k1_pay6 (View.ld x0 r1_0) (View.ld x2 r1_2) (View.ld x3 r1_2) (View.ld x1 r1_1) (View.ld x4 r1_4) (View.ld x5 r1_4)
/-- The exponent bits of the second group's scaled row maxima. -/
def bitsHi (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : IVec S1024x1 32 :=
  k1_pay18 (k1_pay15 (hAll x0 x1 x2 x3 x4 x5)) k1_pay16 k1_pay17

/-- The codes the body leaves. -/
def out1_6 (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) : Vec F S1024x256 .fp8e4m3 :=
  View.canon [⟨r1_6b, k1_pay2 (k1_pay14 (hAll x0 x1 x2 x3 x4 x5)) (bitsHi x0 x1 x2 x3 x4 x5) k1_pay19⟩,
    ⟨r1_6a, k1_pay12 (hLo x0 x1 x2 x3 x4 x5) (k1_pay8 (hLo x0 x1 x2 x3 x4 x5)) (k1_pay9 (hLo x0 x1 x2 x3 x4 x5))⟩]

theorem cover1_6 (p0 p1 : Vec F S1024x128 .fp8e4m3) (y : S1024x256.Idx) :
    ∃ pc ∈ ([⟨r1_6b, p0⟩, ⟨r1_6a, p1⟩] : List (View.Piece (Elt F) S1024x256 .fp8e4m3)), y ∈ pc.1.set :=
  View.cover_of_tiled [⟨r1_6b, p0⟩, ⟨r1_6a, p1⟩] S1024x128.size (by rfl) y

/-- The scales the body leaves at column block `n`, from what it finds there, `y`. -/
def out1_7 (n : BitVec 32) (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) (y : Vec F S1024x90 .f32) : Vec F S1024x90 .f32 :=
  View.canon [⟨r1_7, k1_pay3 n (iota .tc S1024x90 32 [1] iota_S1024x90_d1_w32)
    (k1_pay13 n (iota .tc S1024x90 32 [1] iota_S1024x90_d1_w32) (k1_pay5 (View.ld y r1_7)) (k1_pay8 (hLo x0 x1 x2 x3 x4 x5)) (k1_pay9 (hLo x0 x1 x2 x3 x4 x5)))
    (bitsHi x0 x1 x2 x3 x4 x5) k1_pay19⟩]

theorem cover1_7 (p0 : Vec F S1024x90 .f32) (y : S1024x90.Idx) :
    ∃ pc ∈ ([⟨r1_7, p0⟩] : List (View.Piece (Elt F) S1024x90 .f32)), y ∈ pc.1.set :=
  View.cover_of_tiled [⟨r1_7, p0⟩] S1024x90.size (by rfl) y

set_option maxHeartbeats 2000000 in
/-- The body on whole staging buffers, the inputs' at contents `x0 … x5` and the scales' at `y`. -/
theorem sound_kernel1 (c : Dev nD) (E : Set ℕ) (i : grid1.Coords) (arg2 : Memref sig .tc .vmem S1024x3712 .fp8e4m3) (harg2 : arg2.IsWhole) (arg3 : Memref sig .tc .vmem S1024x1 .f32) (harg3 : arg3.IsWhole) (arg4 : Memref sig .tc .vmem S256x3712 .fp8e4m3) (harg4 : arg4.IsWhole) (arg5 : Memref sig .tc .vmem S256x3712 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .fp8e4m3) (harg8 : arg8.IsWhole) (arg9 : Memref sig .tc .vmem S1024x90 .f32) (harg9 : arg9.IsWhole)
    (x0 : Vec F S1024x3712 .fp8e4m3) (x1 : Vec F S1024x1 .f32) (x2 : Vec F S256x3712 .fp8e4m3) (x3 : Vec F S256x3712 .fp8e4m3) (x4 : Vec F S1x256 .f32) (x5 : Vec F S1x256 .f32) (y : Vec F S1024x90 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5) ∗ owns (c : Thread nD τ) arg9 fullShare (out1_7 (BitVec.ofNat 32 (i 1).val) x0 x1 x2 x3 x4 x5 y)) -∗ K ⟨⟩))
      ⊢ wp frame (wpE (defs₀ (F := F)) Variants.none c none) E (cc1__geglu_kernel i arg2 harg2 arg3 harg3 arg4 harg4 arg5 harg5 arg6 harg6 arg7 harg7 arg8 harg8 arg9 harg9) K := by
  simp only [cc1__geglu_kernel_eq_skeleton]; unfold cc1__geglu_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _ _)).trans ?_
    rfl
  iexists _; isplitr
  swap; · iexact H7
  ipureintro
  refine (View.read_writes_eq_canon _ _ _ (cover1_7 _)).trans ?_
  rfl

/-! ## The pipeline's proof data -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The column block of point `t`, as the body sees it. -/
def colOf (t : Fin cfg1.N) : BitVec 32 := BitVec.ofNat 32 (grid1.coords t 1).val

/-- The codes left at point `t`. -/
def codes1 (c : Dev nD) (t : Fin cfg1.N) : Vec F S1024x256 .fp8e4m3 :=
  out1_6 (iblk1 V c 0 t) (iblk1 V c 1 t) (iblk1 V c 2 t) (iblk1 V c 3 t) (iblk1 V c 4 t) (iblk1 V c 5 t)
/-- The scales left at point `t` where `y` was found. -/
def scales1 (c : Dev nD) (t : Fin cfg1.N) (y : Vec F S1024x90 .f32) : Vec F S1024x90 .f32 :=
  out1_7 (colOf t) (iblk1 V c 0 t) (iblk1 V c 1 t) (iblk1 V c 2 t) (iblk1 V c 3 t) (iblk1 V c 4 t) (iblk1 V c 5 t) y

/-- The proof data with the scales' window unnamed: the inputs keep their blocks, the codes are `codes1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codes1 V c t
    | ⟨7, _⟩ => fun _ => Classical.arbitrary _
  Φ _ := Pipeline.ΦA spec1 c
  q w := Pipeline.shareOf spec1 w
  owed _ := 0

/-- The scales' window is held to its step from what was found. -/
def ovr1 (c : Dev nD) (w : Fin cfg1.W) : Option (Fin cfg1.N → (Y X : (cfg1.win w).block.Idx → Elt F (cfg1.win w).elt) → Prop) :=
  match w with
  | ⟨7, _⟩ => some fun t Y X => X = scales1 V c t Y
  | _ => none

/-- The relational proof data of the second call. -/
def rd1 (c : Dev nD) : RDat τ (Elt F) Unit ℕ (UR sig nD τ) ℕ cfg1 c := (dat1 V c).toR.override (ovr1 V c)

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codes1 V c t := by dsimp only [dat1]

theorem finds1_0 (c : Dev nD) (t : Fin cfg1.N) (Y) (h : (rd1 V c).Finds 0 t Y) : Y = iblk1 V c 0 t := by
  obtain ⟨d, hd⟩ := (dat1 V c).toR_finds 0 t Y (((dat1 V c).toR.override_finds (ovr := ovr1 V c) rfl t Y).mp h)
  rw [hd]; exact before1_0_of V (dat1 V c) (A_eq1 V c 0) (after1_0 V c) t d
theorem finds1_1 (c : Dev nD) (t : Fin cfg1.N) (Y) (h : (rd1 V c).Finds 1 t Y) : Y = iblk1 V c 1 t := by
  obtain ⟨d, hd⟩ := (dat1 V c).toR_finds 1 t Y (((dat1 V c).toR.override_finds (ovr := ovr1 V c) rfl t Y).mp h)
  rw [hd]; exact before1_1_of V (dat1 V c) (A_eq1 V c 1) (after1_1 V c) t d
theorem finds1_2 (c : Dev nD) (t : Fin cfg1.N) (Y) (h : (rd1 V c).Finds 2 t Y) : Y = iblk1 V c 2 t := by
  obtain ⟨d, hd⟩ := (dat1 V c).toR_finds 2 t Y (((dat1 V c).toR.override_finds (ovr := ovr1 V c) rfl t Y).mp h)
  rw [hd]; exact before1_2_of V (dat1 V c) (A_eq1 V c 2) (after1_2 V c) t d
theorem finds1_3 (c : Dev nD) (t : Fin cfg1.N) (Y) (h : (rd1 V c).Finds 3 t Y) : Y = iblk1 V c 3 t := by
  obtain ⟨d, hd⟩ := (dat1 V c).toR_finds 3 t Y (((dat1 V c).toR.override_finds (ovr := ovr1 V c) rfl t Y).mp h)
  rw [hd]; exact before1_3_of V (dat1 V c) (A_eq1 V c 3) (after1_3 V c) t d
theorem finds1_4 (c : Dev nD) (t : Fin cfg1.N) (Y) (h : (rd1 V c).Finds 4 t Y) : Y = iblk1 V c 4 t := by
  obtain ⟨d, hd⟩ := (dat1 V c).toR_finds 4 t Y (((dat1 V c).toR.override_finds (ovr := ovr1 V c) rfl t Y).mp h)
  rw [hd]; exact before1_4_of V (dat1 V c) (A_eq1 V c 4) (after1_4 V c) t d
theorem finds1_5 (c : Dev nD) (t : Fin cfg1.N) (Y) (h : (rd1 V c).Finds 5 t Y) : Y = iblk1 V c 5 t := by
  obtain ⟨d, hd⟩ := (dat1 V c).toR_finds 5 t Y (((dat1 V c).toR.override_finds (ovr := ovr1 V c) rfl t Y).mp h)
  rw [hd]; exact before1_5_of V (dat1 V c) (A_eq1 V c 5) (after1_5 V c) t d
theorem rafter1_0 (c : Dev nD) (t : Fin cfg1.N) (Y) : (rd1 V c).after 0 t Y ((dat1 V c).after 0 t) := by
  unfold rd1; rw [(dat1 V c).toR.override_after_of_eq_none (ovr := ovr1 V c) rfl]
  show (dat1 V c).Leaves 0 t _
  exact rfl
theorem rafter1_1 (c : Dev nD) (t : Fin cfg1.N) (Y) : (rd1 V c).after 1 t Y ((dat1 V c).after 1 t) := by
  unfold rd1; rw [(dat1 V c).toR.override_after_of_eq_none (ovr := ovr1 V c) rfl]
  show (dat1 V c).Leaves 1 t _
  exact rfl
theorem rafter1_2 (c : Dev nD) (t : Fin cfg1.N) (Y) : (rd1 V c).after 2 t Y ((dat1 V c).after 2 t) := by
  unfold rd1; rw [(dat1 V c).toR.override_after_of_eq_none (ovr := ovr1 V c) rfl]
  show (dat1 V c).Leaves 2 t _
  exact rfl
theorem rafter1_3 (c : Dev nD) (t : Fin cfg1.N) (Y) : (rd1 V c).after 3 t Y ((dat1 V c).after 3 t) := by
  unfold rd1; rw [(dat1 V c).toR.override_after_of_eq_none (ovr := ovr1 V c) rfl]
  show (dat1 V c).Leaves 3 t _
  exact rfl
theorem rafter1_4 (c : Dev nD) (t : Fin cfg1.N) (Y) : (rd1 V c).after 4 t Y ((dat1 V c).after 4 t) := by
  unfold rd1; rw [(dat1 V c).toR.override_after_of_eq_none (ovr := ovr1 V c) rfl]
  show (dat1 V c).Leaves 4 t _
  exact rfl
theorem rafter1_5 (c : Dev nD) (t : Fin cfg1.N) (Y) : (rd1 V c).after 5 t Y ((dat1 V c).after 5 t) := by
  unfold rd1; rw [(dat1 V c).toR.override_after_of_eq_none (ovr := ovr1 V c) rfl]
  show (dat1 V c).Leaves 5 t _
  exact rfl
theorem rafter1_6 (c : Dev nD) (t : Fin cfg1.N) (Y) : (rd1 V c).after 6 t Y ((dat1 V c).after 6 t) := by
  unfold rd1; rw [(dat1 V c).toR.override_after_of_eq_none (ovr := ovr1 V c) rfl]
  show (dat1 V c).Leaves 6 t _
  exact rfl
theorem rafter1_7 (c : Dev nD) (t : Fin cfg1.N) (Y) : (rd1 V c).after 7 t Y (scales1 V c t Y) := by
  unfold rd1; rw [(dat1 V c).toR.override_after_of_eq_some (ovr := ovr1 V c) (w := 7) rfl]

/-- What the body is called with at point `t`, the windows one by one, -/
def bodyPre1 (c : Dev nD) (t : Fin cfg1.N) (Y : (w : Fin cfg1.W) → (cfg1.win w).block.Idx → Elt F (cfg1.win w).elt) : sProp 𝕄 :=
  iprop((rd1 V c).Φ t.castSucc ∗ (rd1 V c).owesAt () t.castSucc
    ∗ owns (c : Thread nD τ) (st1_0 t) fullShare (Y 0) ∗ owns (c : Thread nD τ) (st1_1 t) fullShare (Y 1) ∗ owns (c : Thread nD τ) (st1_2 t) fullShare (Y 2) ∗ owns (c : Thread nD τ) (st1_3 t) fullShare (Y 3) ∗ owns (c : Thread nD τ) (st1_4 t) fullShare (Y 4) ∗ owns (c : Thread nD τ) (st1_5 t) fullShare (Y 5) ∗ owns (c : Thread nD τ) (st1_6 t) fullShare (Y 6) ∗ owns (c : Thread nD τ) (st1_7 t) fullShare (Y 7))

/-- and what it returns. -/
def bodyPost1 (c : Dev nD) (t : Fin cfg1.N) (Y : (w : Fin cfg1.W) → (cfg1.win w).block.Idx → Elt F (cfg1.win w).elt) : sProp 𝕄 :=
  iprop((rd1 V c).Φ t.succ ∗ (rd1 V c).owesAt () t.succ
    ∗ (∃ X, ⌜(rd1 V c).after 0 t (Y 0) X⌝ ∗ owns (c : Thread nD τ) (st1_0 t) fullShare X) ∗ (∃ X, ⌜(rd1 V c).after 1 t (Y 1) X⌝ ∗ owns (c : Thread nD τ) (st1_1 t) fullShare X) ∗ (∃ X, ⌜(rd1 V c).after 2 t (Y 2) X⌝ ∗ owns (c : Thread nD τ) (st1_2 t) fullShare X) ∗ (∃ X, ⌜(rd1 V c).after 3 t (Y 3) X⌝ ∗ owns (c : Thread nD τ) (st1_3 t) fullShare X) ∗ (∃ X, ⌜(rd1 V c).after 4 t (Y 4) X⌝ ∗ owns (c : Thread nD τ) (st1_4 t) fullShare X) ∗ (∃ X, ⌜(rd1 V c).after 5 t (Y 5) X⌝ ∗ owns (c : Thread nD τ) (st1_5 t) fullShare X) ∗ (∃ X, ⌜(rd1 V c).after 6 t (Y 6) X⌝ ∗ owns (c : Thread nD τ) (st1_6 t) fullShare X) ∗ (∃ X, ⌜(rd1 V c).after 7 t (Y 7) X⌝ ∗ owns (c : Thread nD τ) (st1_7 t) fullShare X))

/-- The body at any point. -/
theorem sound_body1 (c : Dev nD) (t : Fin cfg1.N) (Y : (w : Fin cfg1.W) → (cfg1.win w).block.Idx → Elt F (cfg1.win w).elt)
    (hY : ∀ w, (rd1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [show (rd1 V c).Φ t.succ = (rd1 V c).Φ t.castSucc from rfl,
    show (rd1 V c).owesAt () t.succ = (rd1 V c).owesAt () t.castSucc from rfl]
  iintro ⟨HΦ, Ho, H0, H1, H2, H3, H4, H5, H6, H7⟩
  rw [finds1_0 V c t (Y 0) (hY 0), finds1_1 V c t (Y 1) (hY 1), finds1_2 V c t (Y 2) (hY 2), finds1_3 V c t (Y 3) (hY 3), finds1_4 V c t (Y 4) (hY 4), finds1_5 V c t (Y 5) (hY 5)]
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]
  · iexists _; isplitr
    · ipureintro; exact rafter1_0 V c t _
    rw [after1_0]; iexact H0
  isplitl [H1]
  · iexists _; isplitr
    · ipureintro; exact rafter1_1 V c t _
    rw [after1_1]; iexact H1
  isplitl [H2]
  · iexists _; isplitr
    · ipureintro; exact rafter1_2 V c t _
    rw [after1_2]; iexact H2
  isplitl [H3]
  · iexists _; isplitr
    · ipureintro; exact rafter1_3 V c t _
    rw [after1_3]; iexact H3
  isplitl [H4]
  · iexists _; isplitr
    · ipureintro; exact rafter1_4 V c t _
    rw [after1_4]; iexact H4
  isplitl [H5]
  · iexists _; isplitr
    · ipureintro; exact rafter1_5 V c t _
    rw [after1_5]; iexact H5
  isplitl [H6]
  · iexists _; isplitr
    · ipureintro; exact rafter1_6 V c t _
    rw [after1_6]; iexact H6
  iexists _; isplitr
  · ipureintro; exact rafter1_7 V c t _
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's relational body obligation, at every point. -/
theorem body_obligation1 (c : Dev nD) : (rd1 (F := F) V c).BodyObligation (defs₀ (F := F)) Variants.none () Set.univ := fun t Y hY => by
  rw [bigSep_W1, bigSep_W1, defs₀_row1]
  exact triple_restated (sound_body1 V c t Y hY) rfl .rfl fun _ => .rfl

end Cert.KernelIdeal.Run

end
-- ==== Proof.KernelIdeal.Run.lean ====
/- The run of the whole kernel at any float algebra: the two calls and the host stretches around them as segments of
   @main, the launch over them, every unscoped buffer's contents at the end (`run`), and the frame (`frame`). -/
module

public import proofs.«01_k».proof.Proof.KernelIdeal.Quantise
public import proofs.«01_k».proof.Proof.KernelIdeal.Geglu
public import proofs.«01_k».proof.Proof.Gen.KernelIdeal.Regions
public import Idealize.ShloMosaic.Lib.Pipeline.RegionsLoop
public import Idealize.ShloMosaic.Lib.Pipeline.RegionsOwned
public import Idealize.ShloMosaic.Lib.Pipeline.FrameSuffix
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch, -/
abbrev W0 (c : Dev nD) : Valuation τ sig (Elt F) := fun b => m (c, b)
/-- after the host stretch before the first call, -/
abbrev W1 (c : Dev nD) : Valuation τ sig (Elt F) := StableHlo.after hostOps0 (W0 m c)
/-- the TensorCore's, as the first call finds them, -/
abbrev E0 (c : Dev nD) (b : Ref sig .tc) : Buf (Elt F) ((c : Thread nD τ).loc b) := W1 m c b
/-- after the first call, -/
def W2 (c : Dev nD) : Valuation τ sig (Elt F) :=
  Pipeline.withArrays spec0 c (W1 m c) fun w => (dat0 (E0 m) c).arrAt w cfg0.N
/-- after the host stretch between the calls, -/
abbrev W3 (c : Dev nD) : Valuation τ sig (Elt F) := StableHlo.after hostOps1 (W2 m c)
/-- the TensorCore's, as the second call finds them. -/
abbrev E1 (c : Dev nD) (b : Ref sig .tc) : Buf (Elt F) ((c : Thread nD τ).loc b) := W3 m c b
/-- What the second call may leave in its windows' arrays. -/
def Γ (c : Dev nD) : Type :=
  {A : (w : Fin cfg1.W) → Buf (Elt F) ((cfg1.win w).arr.view.loc (c.tc : Thread nD τ)) // ∀ w, (rd1 (E1 m) c).ArrAt w cfg1.N (A w)}
/-- Core `c`'s buffers after the second call, when that left `γ`, -/
def W4 (c : Dev nD) (γ : Γ m c) : Valuation τ sig (Elt F) :=
  Pipeline.withArrays spec1 c (W3 m c) γ.1
/-- and at the end. -/
abbrev W5 (c : Dev nD) (γ : Γ m c) : Valuation τ sig (Elt F) := StableHlo.after hostOps2 (W4 m c γ)

/-! ## The records of the two calls -/

/-- The exact proof data of the two calls (the second's with its scales unnamed). -/
def pdats : (p : Fin 2) → (c : Dev nD) → Dat τ (Elt F) Unit ℕ (UR sig nD τ) ℕ (cfgs p) c
  | ⟨0, _⟩, c => dat0 (E0 m) c
  | ⟨1, _⟩, c => dat1 (E1 m) c
/-- The relational proof data of the two calls. -/
def rdats : (p : Fin 2) → (c : Dev nD) → RDat τ (Elt F) Unit ℕ (UR sig nD τ) ℕ (cfgs p) c
  | ⟨0, _⟩, c => (dat0 (E0 m) c).toR
  | ⟨1, _⟩, c => rd1 (E1 m) c

abbrev 𝒱₀ : Variants := Variants.none
abbrev L : GSem nD τ sig → Finset Unit := fun _ => ∅
abbrev lv : GSem nD τ sig → Unit → ℕ := fun _ _ => 0

/-- What rides along through every item: the generator register and the core owing nothing. -/
abbrev R (c : Dev nD) : sProp 𝕄 := iprop((∃ r, prngReg c r) ∗ ∃ W, owes (c : Thread nD τ) (0 : CellTallies nD τ sig Unit) W)

theorem arrRef1_eq {w w' : Fin cfg1.W} (hne : w ≠ w') (e : Pipeline.arrRef spec1 w = Pipeline.arrRef spec1 w') : (cfg1.win w).isOut = false := by
  revert w w'; decide

theorem γ_in (c : Dev nD) (γ : Γ m c) (w : Fin cfg1.W) (h : (cfg1.win w).isOut = false) : γ.1 w = W3 m c (Proc.devRef .tc (Pipeline.arrRef spec1 w)) :=
  (congrFun ((rd1 (E1 m) c).ArrAt_in w h _) _).mp (γ.2 w)

theorem W4_arr (c : Dev nD) (γ : Γ m c) (w : Fin cfg1.W) : W4 m c γ (Proc.devRef .tc (Pipeline.arrRef spec1 w)) = γ.1 w :=
  Pipeline.withArrays_arr_shared spec1 c _ _ (fun w w' hne e => γ_in m c γ w (arrRef1_eq hne e)) w

theorem W4_of_ne (c : Dev nD) (γ : Γ m c) (b : Ref sig .tc) (hb : ∀ w, Pipeline.arrRef spec1 w ≠ b) : W4 m c γ (Proc.devRef .tc b) = W3 m c (Proc.devRef .tc b) :=
  Pipeline.withArrays_of_ne spec1 c _ _ b hb

theorem W2_arr (c : Dev nD) (w : Fin cfg0.W) : W2 m c (Proc.devRef .tc (Pipeline.arrRef spec0 w)) = (dat0 (E0 m) c).arrAt w cfg0.N :=
  Pipeline.withArrays_arr spec0 launch0.win.arr_inj c _ _ w

theorem W2_of_ne (c : Dev nD) (b : Ref sig .tc) (hb : ∀ w, Pipeline.arrRef spec0 w ≠ b) : W2 m c (Proc.devRef .tc b) = W1 m c (Proc.devRef .tc b) :=
  Pipeline.withArrays_of_ne spec0 c _ _ b hb

set_option backward.isDefEq.respectTransparency.types false in
/-- The first call as a segment of @main. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (A_eq0 (E0 m) c)
    rw [Pipeline.unscopedBufs_held] at hsplit
    replace hsplit : (StableHlo.held (c : Thread nD τ) (Pipeline.ucRefs τ sig) (W1 m c) : sProp 𝕄) ⊢ iprop((rdats m 0 c).arrays (rdats m 0 c).A
        ∗ Pipeline.unscopedRest (Ix := Unit) (Name := ℕ) (U := UR sig nD τ) (Lvl := ℕ) spec0 c (E0 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W2 m c b) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    replace hjoin : iprop((dat0 (E0 m) c).arrays ((dat0 (E0 m) c).arrAt · cfg0.N)
        ∗ Pipeline.unscopedRest (Ix := Unit) (Name := ℕ) (U := UR sig nD τ) (Lvl := ℕ) spec0 c (E0 m c)) ⊢ (StableHlo.held (c : Thread nD τ) (Pipeline.ucRefs τ sig) (W2 m c) : sProp 𝕄) := hjoin
    refine (sep_mono (Entails.of_eq ((dat0 (E0 m) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The second call's arrays at the end: some contents they may hold. -/
theorem arraysAt_open1 (c : Dev nD) : ((rd1 (E1 m) c).arraysAt cfg1.N : sProp 𝕄)
    ⊢ iprop(∃ γ : Γ m c, (dat1 (E1 m) c).arrays γ.1) := by
  unfold RDat.arraysAt Dat.arrays
  refine (BI.bigSep_exists_pi Finset.univ _).trans ?_
  iintro ⟨%A, H⟩
  ihave H' := (BI.bigSep_pure_sep Finset.univ (fun w => (rd1 (E1 m) c).ArrAt w cfg1.N (A w)) _) $$ H
  icases H' with ⟨%hA, H⟩
  iexists (⟨A, fun w => hA w (Finset.mem_univ w)⟩ : Γ m c)
  iexact H

set_option backward.isDefEq.respectTransparency.types false in
/-- The second call as a segment of @main. -/
def reg1 : Pipeline.RDat.RegionSeg (pcfgs (F := F)) adm (rdats m) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (E1 m) c
  hwaits := Pipeline.RDat.hwaits_of_owed_zero _ _ _ _ L lv 1 fun _ _ => rfl
  pre c := iprop(StableHlo.held (c : Thread nD τ) (Pipeline.ucRefs τ sig) (W3 m c) ∗ R c)
  post c := iprop((∃ γ : Γ m c, StableHlo.held (c : Thread nD τ) (Pipeline.ucRefs τ sig) (W4 m c γ)) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (E1 m c) (A_eq1 (E1 m) c)
    rw [Pipeline.unscopedBufs_held] at hsplit
    replace hsplit : (StableHlo.held (c : Thread nD τ) (Pipeline.ucRefs τ sig) (W3 m c) : sProp 𝕄) ⊢ iprop((rdats m 1 c).arrays (rdats m 1 c).A
        ∗ Pipeline.unscopedRest (Ix := Unit) (Name := ℕ) (U := UR sig nD τ) (Lvl := ℕ) spec1 c (E1 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun γ : Γ m c => Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (E1 m c) (fun b => W4 m c γ b) γ.1 (fun w => (W4_arr m c γ w).symm)
      (fun b hb => W4_of_ne m c γ b fun w e => hb (Finset.mem_image.mpr ⟨w, Finset.mem_univ _, e⟩))
    refine (sep_mono (arraysAt_open1 m c) .rfl).trans ?_
    iintro ⟨⟨%γ, Ha⟩, HO, HY, Hrest⟩
    have hj := hjoin γ
    rw [Pipeline.unscopedBufs_held] at hj
    replace hj : iprop((dat1 (E1 m) c).arrays γ.1
        ∗ Pipeline.unscopedRest (Ix := Unit) (Name := ℕ) (U := UR sig nD τ) (Lvl := ℕ) spec1 c (E1 m c)) ⊢ (StableHlo.held (c : Thread nD τ) (Pipeline.ucRefs τ sig) (W4 m c γ) : sProp 𝕄) := hj
    imodintro
    isplitl [Ha Hrest]
    · iexists γ
      iapply hj; isplitl [Ha] <;> iassumption
    isplitl [HY]; · iexact HY
    unfold Pipeline.RDat.owesAt Pipeline.owesWithin
    icases HO with ⟨%W, -, HO⟩; iexists W; iexact HO

/-! ## The host stretches, and the run -/

def hseg0 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
def hseg1 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def hseg2 : Pipeline.HostSeg (Ix := Unit) (Name := ℕ) (U := UR sig nD τ) (Lvl := ℕ) (pcfgs (F := F)) defs₀ 𝒱₀ L lv :=
  Pipeline.HostSeg.ofOpsEx _ _ _ _ _ (Γ := Γ m) (Pipeline.ucRefs τ sig) hostOps2
    (fun op h => Pipeline.sub_ucRefs op ((List.forall_iff_forall_mem.mp hostOps2_sub) op h))
    (fun op h => (List.forall_iff_forall_mem.mp hostOps2_fresh) op h) (W4 m) R

/-- The segments of @main in order. -/
abbrev segs : List (Pipeline.RDat.Seg (pcfgs (F := F)) adm (rdats m) () defs₀ 𝒱₀ L lv) :=
  [.host (hseg0 m), .region (reg0 m), .host (hseg1 m), .region (reg1 m), .host (hseg2 m)]

/-- The last thread state: every unscoped buffer at `W5` for something the second call may have left. -/
abbrev Tₙ (c : Dev nD) : sProp 𝕄 := iprop((∃ γ : Γ m c, StableHlo.held (c : Thread nD τ) (Pipeline.ucRefs τ sig) (W5 m c γ)) ∗ ∃ r, prngReg c r)

theorem last_link (c : Dev nD) : (Pipeline.RDat.Seg.host (rdats := rdats m) (a := adm) (ι := ()) (hseg2 m)).post c
    ⊢ iprop(Tₙ m c ∗ ∃ W, owes (c : Thread nD τ) (0 : CellTallies nD τ sig Unit) W) := by
  dsimp only [Pipeline.RDat.Seg.post, hseg2, Pipeline.HostSeg.ofOpsEx]
  iintro ⟨Hh, Hp, HO⟩
  isplitl [Hh Hp]
  · isplitl [Hh]; · iexact Hh
    iexact Hp
  iexact HO

set_option backward.isDefEq.respectTransparency.types false in
/-- THE RUN: every weakly fair execution of @main terminates with every semaphore counter at zero and every unscoped
    buffer at `W5`, for something the second call may have left in its arrays. -/
theorem run : θ_run defs (onTc (τ := τ) (main (F := F))) ⟨m, fun _ => 0, ρ⟩ (fun r =>
    (∀ c : Dev nD, ∃ γ : Γ m c, ∀ b ∈ Pipeline.ucRefs τ sig, r.2.mem (((c : Thread nD τ)).1, b) = W5 m c γ b)
      ∧ r.2.sem = fun _ => 0) :=
  Pipeline.RDat.θ_run_regions_kit_sems (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, last_link m⟩)
    (hinit := by
      refine Pipeline.initEach L lv fun c => ?_
      rw [show unscopedBufs c (fun b => m ((c.tc : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m c, ∀ b ∈ Pipeline.ucRefs τ sig, s.mem (((c : Thread nD τ)).1, b) = W5 m c γ b)
    (hfin := fun c s' => by
      iintro ⟨⟨⟨%γ, Hh⟩, -⟩, HSI⟩
      unfold StableHlo.held
      imodintro
      ihave Hr := (pointsTo_read_all (Pipeline.ucRefs τ sig) (fun b => (((c : Thread nD τ)).1, b)) (W5 m c γ) s') $$ [Hh HSI]
      · isplitl [Hh] <;> iassumption
      icases Hr with ⟨%h, HSI⟩
      isplitr; · ipureintro; exact ⟨γ, h⟩
      iexact HSI)
    (hQ := fun _ h hz => ⟨h, funext fun g => hz g (.inr (regions_no_unscoped g.2))⟩)

/-! ## The arguments end as launched -/

theorem mem_uc (b : Ref sig .tc) (h : ¬ b.isScoped) : Proc.devRef .tc b ∈ Pipeline.ucRefs τ sig :=
  Finset.mem_filter.mpr ⟨StableHlo.devRef_mem_tcRefs b, by simpa using h⟩

theorem W5_of (c : Dev nD) (γ : Γ m c) (b : Ref sig .tc) (h : b ∉ hostOps2_W) : W5 m c γ b = W4 m c γ b :=
  StableHlo.after_of_writes_sub hostOps2 _ hostOps2_writes h
theorem W3_of (c : Dev nD) (b : Ref sig .tc) (h : b ∉ hostOps1_W) : W3 m c b = W2 m c b :=
  StableHlo.after_of_writes_sub hostOps1 _ hostOps1_writes h
theorem W1_of (c : Dev nD) (b : Ref sig .tc) (h : b ∉ hostOps0_W) : W1 m c b = W0 m c b :=
  StableHlo.after_of_writes_sub hostOps0 _ hostOps0_writes h

theorem W3_arg (c : Dev nD) (b : Ref sig .tc) (h0 : b ∉ hostOps0_W) (h1 : b ∉ hostOps1_W) (hw : ∀ w, Pipeline.arrRef spec0 w ≠ b) :
    W3 m c b = W0 m c b :=
  (W3_of m c b h1).trans ((W2_of_ne m c b hw).trans (W1_of m c b h0))

theorem W5_main_arg0 (c : Dev nD) (γ : Γ m c) : W5 m c γ main_arg0 = m ((c : Thread nD τ).loc main_arg0) :=
  (W5_of m c γ main_arg0 (by decide)).trans ((W4_of_ne m c γ main_arg0 (by decide)).trans (W3_arg m c main_arg0 (by decide) (by decide) (by decide)))
theorem W5_main_arg1 (c : Dev nD) (γ : Γ m c) : W5 m c γ main_arg1 = m ((c : Thread nD τ).loc main_arg1) :=
  (W5_of m c γ main_arg1 (by decide)).trans ((W4_arr m c γ 2).trans ((γ_in m c γ 2 rfl).trans (W3_arg m c main_arg1 (by decide) (by decide) (by decide))))
theorem W5_main_arg2 (c : Dev nD) (γ : Γ m c) : W5 m c γ main_arg2 = m ((c : Thread nD τ).loc main_arg2) :=
  (W5_of m c γ main_arg2 (by decide)).trans ((W4_of_ne m c γ main_arg2 (by decide)).trans (W3_arg m c main_arg2 (by decide) (by decide) (by decide)))

/-- THE FRAME: the arguments end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => by
    obtain ⟨γ, hγ⟩ := h.1 c
    exact ⟨(hγ _ (mem_uc main_arg0 (by decide))).trans (W5_main_arg0 m c γ),
      (hγ _ (mem_uc main_arg1 (by decide))).trans (W5_main_arg1 m c γ),
      (hγ _ (mem_uc main_arg2 (by decide))).trans (W5_main_arg2 m c γ)⟩, h.2⟩) (run m ρ)

end Cert.KernelIdeal.Run

end
-- ==== Proof.Value.Scale.lean ====
/- The power-of-two scale of a group over the extended reals: the kernel finds the exponent by a binary search over
   the patterns of the powers of two, the reference by a logarithm and a floor. Both give the same scale and the same
   inverse scale. -/
module

public import Idealize.ShloMosaic.PureOps.Ideal
public import Idealize.ShloMosaic.PureOps.Ideal.Laws
public import Idealize.ShloMosaic.Lib.IdealHost

@[expose] public section

noncomputable section

namespace Cert.Scale

open Idealize.ShloMosaic

/-! ## The patterns of the powers of two -/

/-- The bit pattern with exponent field `n` and mantissa zero. -/
def pat (n : ℕ) : BitVec 32 := BitVec.ofNat 32 n <<< 23

/-- What that pattern denotes. -/
def pw (n : ℕ) : EReal := Ideal.ofBits .f32 (pat n)

theorem pat_add (a b : ℕ) : pat a + pat b = pat (a + b) := by
  unfold pat
  apply BitVec.eq_of_toNat_eq
  simp only [BitVec.toNat_add, BitVec.toNat_shiftLeft, BitVec.toNat_ofNat, Nat.shiftLeft_eq]
  omega

/-- A pattern with exponent field 1 to 254 denotes that power of two. -/
theorem pw_eq (n : ℕ) (h1 : 1 ≤ n) (h2 : n ≤ 254) : pw n = (((2 : ℝ) ^ ((n : ℤ) - 127) : ℝ) : EReal) := by
  have hneg : ((pat n).extractLsb' 31 1 == 1#1) = false := by
    have : (pat n).extractLsb' 31 1 = 0#1 := by
      apply BitVec.eq_of_toNat_eq
      simp only [pat, BitVec.extractLsb'_toNat, BitVec.toNat_shiftLeft, BitVec.toNat_ofNat, Nat.shiftRight_eq_div_pow,
        Nat.shiftLeft_eq]
      omega
    rw [this]; rfl
  have hex : ((pat n).extractLsb' 23 8).toNat = n := by
    simp only [pat, BitVec.extractLsb'_toNat, BitVec.toNat_shiftLeft, BitVec.toNat_ofNat, Nat.shiftRight_eq_div_pow,
        Nat.shiftLeft_eq]
    omega
  have hfr : ((pat n).extractLsb' 0 23).toNat = 0 := by
    simp only [pat, BitVec.extractLsb'_toNat, BitVec.toNat_shiftLeft, BitVec.toNat_ofNat, Nat.shiftRight_eq_div_pow,
        Nat.shiftLeft_eq]
    omega
  unfold pw
  rw [Ideal.ofBits, Ideal.ieee]
  simp only [Nat.reduceAdd] at *
  rw [hneg, hex, hfr]
  have a1 : ¬ n = 2 ^ 8 - 1 := by omega
  have a2 : ¬ n = 0 := by omega
  rw [if_neg a1, if_neg a2]
  refine congrArg Real.toEReal ?_
  rw [Nat.add_zero, if_neg Bool.false_ne_true, one_mul]
  have h23 : ((2 ^ 23 : ℕ) : ℝ) = (2 : ℝ) ^ (23 : ℤ) := by rw [Nat.cast_pow, Nat.cast_ofNat]; rfl
  rw [h23, ← zpow_add₀ (by norm_num : (2 : ℝ) ≠ 0)]
  refine congrArg (fun z : ℤ => (2 : ℝ) ^ z) ?_
  omega

theorem pw_zero : pw 0 = 0 := by
  have h : pat 0 = 0x00000000#32 := by decide +kernel
  unfold pw
  rw [h, Ideal.ofBits_zero_f32]

theorem pw_255 : pw 255 = ⊤ := by
  unfold pw
  have h : pat 255 = 0x7F800000#32 := by decide +kernel
  rw [h]
  simp [Ideal.ofBits, Ideal.ieee]

/-! ## The kernel's search -/

/-- One step of the search: keep the pattern if the value is below the candidate, take the candidate otherwise. -/
def stp (v : EReal) (K b : BitVec 32) : BitVec 32 :=
  Scalar.select (Ideal.cmp .olt v (Ideal.ofBits .f32 (b + K))) b (b + K)

/-- The eight steps, from the highest exponent bit to the lowest. -/
def srch (v : EReal) : BitVec 32 :=
  stp v 8388608#32 (stp v 16777216#32 (stp v 33554432#32 (stp v 67108864#32 (stp v 134217728#32
    (stp v 268435456#32 (stp v 536870912#32 (stp v 1073741824#32 0#32)))))))

/-- The pattern found, no more than that of `2 ^ 125`, behind the kernel's test for a number. -/
def capped (v : EReal) : BitVec 32 :=
  Scalar.select (Ideal.cmp .oeq (v * Ideal.ofBits .f32 0x00000000#32) (Ideal.ofBits .f32 0x00000000#32))
    (IntOp.minsi (srch v) 2113929216#32) 2139095040#32

/-- The kernel's scale. -/
def kScale (v : EReal) : EReal :=
  Scalar.select (IntOp.cmpi .eq (capped v) 0#32) (Ideal.ofBits .f32 0x3F800000#32) (Ideal.ofBits .f32 (capped v + 8388608#32))

/-- The kernel's inverse scale. -/
def kInv (v : EReal) : EReal :=
  Scalar.select (IntOp.cmpi .eq (capped v) 0#32) (Ideal.ofBits .f32 0x3F800000#32) (Ideal.ofBits .f32 (2122317824#32 - capped v))

/-- What is known of a pattern during the search: it is the pattern of a power not above the value, and the power
    `K` exponents further up is above it unless it is past the last. -/
def Inv (v : EReal) (K : ℕ) (b : BitVec 32) : Prop :=
  ∃ n, b = pat n ∧ n + K ≤ 256 ∧ pw n ≤ v ∧ (n + K < 256 → v < pw (n + K))

theorem stp_inv (v : EReal) (K : ℕ) (hK : 0 < K) (b : BitVec 32) (h : Inv v (K + K) b) : Inv v K (stp v (pat K) b) := by
  obtain ⟨n, rfl, hn, hle, hlt⟩ := h
  unfold stp
  rw [pat_add]
  by_cases hc : v < Ideal.ofBits .f32 (pat (n + K))
  · have : Ideal.cmp .olt v (Ideal.ofBits .f32 (pat (n + K))) = 1#1 := by simp [Ideal.cmp, hc]
    rw [this]
    exact ⟨n, rfl, by omega, hle, fun _ => hc⟩
  · have : Ideal.cmp .olt v (Ideal.ofBits .f32 (pat (n + K))) = 0#1 := by simp [Ideal.cmp, hc]
    rw [this]
    exact ⟨n + K, rfl, by omega, not_lt.mp hc, fun h => by rw [Nat.add_assoc]; exact hlt (by omega)⟩

theorem pat_vals : pat 1 = 8388608#32 ∧ pat 2 = 16777216#32 ∧ pat 4 = 33554432#32 ∧ pat 8 = 67108864#32
    ∧ pat 16 = 134217728#32 ∧ pat 32 = 268435456#32 ∧ pat 64 = 536870912#32 ∧ pat 128 = 1073741824#32 ∧ pat 0 = 0#32
    ∧ pat 127 = 0x3F800000#32 := by
  decide +kernel

/-- The search as eight steps at the powers' patterns. -/
theorem srch_eq (v : EReal) : srch v = stp v (pat 1) (stp v (pat 2) (stp v (pat 4) (stp v (pat 8) (stp v (pat 16)
    (stp v (pat 32) (stp v (pat 64) (stp v (pat 128) (pat 0)))))))) := by
  obtain ⟨h1, h2, h3, h4, h5, h6, h7, h8, h9, _⟩ := pat_vals
  rw [h1, h2, h3, h4, h5, h6, h7, h8, h9]
  rfl

theorem srch_inv (v : EReal) (hv : 0 ≤ v) : Inv v 1 (srch v) := by
  have h0 : Inv v (128 + 128) (pat 0) := ⟨0, rfl, by omega, by rw [pw_zero]; exact hv, fun h => absurd h (by omega)⟩
  rw [srch_eq]
  have h1 : Inv v (64 + 64) _ := stp_inv v 128 (by omega) _ h0
  have h2 : Inv v (32 + 32) _ := stp_inv v 64 (by omega) _ h1
  have h3 : Inv v (16 + 16) _ := stp_inv v 32 (by omega) _ h2
  have h4 : Inv v (8 + 8) _ := stp_inv v 16 (by omega) _ h3
  have h5 : Inv v (4 + 4) _ := stp_inv v 8 (by omega) _ h4
  have h6 : Inv v (2 + 2) _ := stp_inv v 4 (by omega) _ h5
  have h7 : Inv v (1 + 1) _ := stp_inv v 2 (by omega) _ h6
  exact stp_inv v 1 (by omega) _ h7

theorem minsi_pat : ∀ n : Fin 256, IntOp.minsi (pat n.val) 2113929216#32 = pat (min n.val 252) := by decide +kernel

theorem select_one {α : Type} (x y : α) : Scalar.select 1#1 x y = x := by simp [Scalar.select]

theorem select_zero {α : Type} (x y : α) : Scalar.select 0#1 x y = y := by simp [Scalar.select]

/-- The capped pattern is that of the power found, no more than the 252nd. -/
theorem capped_eq (v : EReal) (n : ℕ) (hn : n < 256) (h : srch v = pat n) : capped v = pat (min n 252) := by
  unfold capped
  have : Ideal.cmp .oeq (v * Ideal.ofBits .f32 0x00000000#32) (Ideal.ofBits .f32 0x00000000#32) = 1#1 := by
    rw [Ideal.ofBits_zero_f32, mul_zero]; simp [Ideal.cmp]
  rw [this, h, select_one]
  exact minsi_pat ⟨n, hn⟩

theorem cmpi_pat : ∀ n : Fin 253, 0 < n.val → IntOp.cmpi .eq (pat n.val) 0#32 = 0#1 := by decide +kernel

theorem sub_pat : ∀ n : Fin 253, 2122317824#32 - pat n.val = pat (253 - n.val) := by decide +kernel

/-- The scale and its inverse where the search ends at a pattern above zero. -/
theorem kScale_pos (v : EReal) (n : ℕ) (hn : n < 256) (h0 : 0 < n) (h : srch v = pat n) :
    kScale v = pw (min n 252 + 1) ∧ kInv v = pw (253 - min n 252) := by
  unfold kScale kInv
  rw [capped_eq v n hn h, cmpi_pat ⟨min n 252, by omega⟩ (by show 0 < min n 252; omega), sub_pat ⟨min n 252, by omega⟩,
    select_zero, select_zero, ← pat_vals.1, pat_add]
  exact ⟨rfl, rfl⟩

theorem kScale_zero (v : EReal) (h : srch v = pat 0) : kScale v = 1 ∧ kInv v = 1 := by
  unfold kScale kInv
  have hc : IntOp.cmpi .eq (pat (min 0 252)) 0#32 = 1#1 := by decide +kernel
  rw [capped_eq v 0 (by omega) h, hc, select_one, select_one, Ideal.ofBits_one_f32]
  exact ⟨rfl, rfl⟩

/-! ## The reference's exponent -/

/-- The reference's exponent of a scaled maximum `v` of a group whose maximum is `a`. -/
def rExp (a v : EReal) : EReal :=
  Scalar.select (Ideal.cmp .oeq a (Ideal.ofBits .f32 0x00000000#32)) (Ideal.ofBits .f32 0x00000000#32)
    (Scalar.select (Ideal.cmp .olt v (Ideal.ofBits .f32 0x00800000#32)) (Ideal.ofBits .f32 0x00000000#32)
      (min (Ideal.liftRound Int.floor (Ideal.div (Ideal.log v) (Ideal.log (Ideal.ofBits .f32 0x40000000#32)))
        + Ideal.ofBits .f32 0x3F800000#32) (Ideal.ofBits .f32 0x42FC0000#32)))

theorem two_eq : Ideal.ofBits .f32 0x40000000#32 = ((2 : ℝ) : EReal) := by
  simp [Ideal.ofBits, Ideal.ieee, -EReal.coe_mul]; norm_num

theorem c126_eq : Ideal.ofBits .f32 0x42FC0000#32 = ((126 : ℝ) : EReal) := by
  simp [Ideal.ofBits, Ideal.ieee, -EReal.coe_mul]; norm_num

theorem min_coe (x y : ℝ) : min (x : EReal) (y : EReal) = ((min x y : ℝ) : EReal) :=
  (EReal.coe_strictMono.monotone.map_min).symm

/-- The exponent at a real value not below the least normal number: the floor of the logarithm plus one, no more
    than 126. -/
theorem rExp_real (a : EReal) (r : ℝ) (ha : a ≠ 0) (hlo : (2 : ℝ) ^ (-126 : ℤ) ≤ r) :
    rExp a r = ((min ((⌊Real.log r * (1 / Real.log 2)⌋ : ℝ) + 1) 126 : ℝ) : EReal) := by
  have hr : 0 < r := lt_of_lt_of_le (by positivity) hlo
  have hn : Ideal.ofBits .f32 0x00800000#32 = (((2 : ℝ) ^ (-126 : ℤ) : ℝ) : EReal) := by
    have h := pw_eq 1 (by omega) (by omega)
    unfold pw at h
    rw [pat_vals.1] at h
    rw [h]
    norm_num
  have e1 : Ideal.cmp .oeq a (Ideal.ofBits .f32 0x00000000#32) = 0#1 := by
    rw [Ideal.ofBits_zero_f32]; simp [Ideal.cmp, ha]
  have e2 : Ideal.cmp .olt (r : EReal) (Ideal.ofBits .f32 0x00800000#32) = 0#1 := by
    rw [hn]
    have : ¬ ((r : EReal) < (((2 : ℝ) ^ (-126 : ℤ) : ℝ) : EReal)) := by
      rw [EReal.coe_lt_coe_iff, not_lt]
      exact hlo
    simp only [Ideal.cmp, this, decide_false]
    rfl
  unfold rExp
  rw [e1, e2, two_eq, c126_eq, Ideal.ofBits_one_f32]
  rw [select_zero, select_zero]
  have hl2 : (0 : ℝ) < Real.log 2 := Real.log_pos (by norm_num)
  rw [Ideal.log_coe, Ideal.log_coe, if_neg (not_le.mpr hr), if_neg (by norm_num), Ideal.div_coe hl2.ne', ← EReal.coe_mul,
    Ideal.liftRound_coe, ← EReal.coe_one, ← EReal.coe_add, min_coe]

theorem log_pow (z : ℤ) : Real.log ((2 : ℝ) ^ z) * (1 / Real.log 2) = (z : ℝ) := by
  have hl2 : (0 : ℝ) < Real.log 2 := Real.log_pos (by norm_num)
  rw [Real.log_zpow]; field_simp

/-- The exponent where the value lies between two neighbouring powers. -/
theorem rExp_mid (a : EReal) (r : ℝ) (n : ℕ) (h1 : 1 ≤ n) (ha : a ≠ 0) (hlo : (2 : ℝ) ^ ((n : ℤ) - 127) ≤ r)
    (hhi : r < (2 : ℝ) ^ ((n : ℤ) - 126)) : rExp a r = ((min ((n : ℝ) - 126) 126 : ℝ) : EReal) := by
  have hr : 0 < r := lt_of_lt_of_le (by positivity) hlo
  have hl2 : (0 : ℝ) < Real.log 2 := Real.log_pos (by norm_num)
  rw [rExp_real a r ha (le_trans (zpow_le_zpow_right₀ (by norm_num) (by omega)) hlo)]
  have hf : ⌊Real.log r * (1 / Real.log 2)⌋ = (n : ℤ) - 127 := by
    rw [Int.floor_eq_iff]
    constructor
    · rw [← log_pow]
      exact mul_le_mul_of_nonneg_right (Real.log_le_log (by positivity) hlo) (by positivity)
    · have : (((n : ℤ) - 127 : ℤ) : ℝ) + 1 = (((n : ℤ) - 126 : ℤ) : ℝ) := by push_cast; ring
      rw [this, ← log_pow]
      exact mul_lt_mul_of_pos_right (Real.log_lt_log hr hhi) (by positivity)
  rw [hf]
  congr 2
  push_cast
  ring

/-- The exponent is 126 at every real value from `2 ^ 127` up. -/
theorem rExp_high (a : EReal) (r : ℝ) (ha : a ≠ 0) (hlo : (2 : ℝ) ^ (127 : ℤ) ≤ r) : rExp a r = ((126 : ℝ) : EReal) := by
  have hr : 0 < r := lt_of_lt_of_le (by positivity) hlo
  have hl2 : (0 : ℝ) < Real.log 2 := Real.log_pos (by norm_num)
  rw [rExp_real a r ha (le_trans (zpow_le_zpow_right₀ (by norm_num) (by omega)) hlo)]
  have hf : (127 : ℤ) ≤ ⌊Real.log r * (1 / Real.log 2)⌋ := by
    rw [Int.le_floor, ← log_pow]
    exact mul_le_mul_of_nonneg_right (Real.log_le_log (by positivity) hlo) (by positivity)
  have hf' : (127 : ℝ) ≤ (⌊Real.log r * (1 / Real.log 2)⌋ : ℝ) := by exact_mod_cast hf
  rw [min_eq_right (by linarith)]

theorem rExp_top (a : EReal) (ha : a ≠ 0) : rExp a ⊤ = ((126 : ℝ) : EReal) := by
  have e1 : Ideal.cmp .oeq a (Ideal.ofBits .f32 0x00000000#32) = 0#1 := by
    rw [Ideal.ofBits_zero_f32]; simp [Ideal.cmp, ha]
  have e2 : Ideal.cmp .olt (⊤ : EReal) (Ideal.ofBits .f32 0x00800000#32) = 0#1 := by
    simp [Ideal.cmp]
  unfold rExp
  rw [e1, e2, two_eq, c126_eq, Ideal.ofBits_one_f32]
  rw [select_zero, select_zero]
  have hl2 : (0 : ℝ) < Real.log 2 := Real.log_pos (by norm_num)
  rw [Ideal.log_top, Ideal.log_coe, if_neg (by norm_num), Ideal.div_coe hl2.ne', EReal.top_mul_coe_of_pos (by positivity),
    Ideal.liftRound_top, ← EReal.coe_one, EReal.top_add_coe]
  exact min_eq_right le_top

theorem rExp_low (a v : EReal) (h : v < pw 1) : rExp a v = 0 := by
  have e2 : Ideal.cmp .olt v (Ideal.ofBits .f32 0x00800000#32) = 1#1 := by
    have : v < Ideal.ofBits .f32 0x00800000#32 := by
      unfold pw at h
      rw [pat_vals.1] at h
      exact h
    simp [Ideal.cmp, this]
  unfold rExp
  rw [e2, Ideal.ofBits_zero_f32]
  show Scalar.select _ (0 : EReal) 0 = 0
  unfold Scalar.select
  split <;> rfl

/-! ## The two agree -/

theorem exp2_int (z : ℤ) : Ideal.exp2 ((z : ℝ) : EReal) = (((2 : ℝ) ^ z : ℝ) : EReal) := by
  rw [Ideal.exp2_coe]
  congr 1
  exact Real.rpow_intCast 2 z

theorem exp2_zero : Ideal.exp2 0 = 1 := by
  rw [← EReal.coe_zero, Ideal.exp2_coe]
  simp

/-- THE SCALE: over the extended reals the kernel's scale and inverse scale of `v` are the reference's powers of
    two, for a group whose maximum `a` is zero only if `v` is. -/
theorem scale_eq (a v : EReal) (hv : 0 ≤ v) (ha : a = 0 → v = 0) :
    kScale v = Ideal.exp2 (rExp a v) ∧ kInv v = Ideal.exp2 (Ideal.ofBits .f32 0x00000000#32 - rExp a v) := by
  obtain ⟨n, hb, hn, hle, hlt⟩ := srch_inv v hv
  rw [Ideal.ofBits_zero_f32]
  by_cases h0 : n = 0
  · subst h0
    rw [rExp_low a v (hlt (by decide)), sub_zero, exp2_zero]
    exact kScale_zero v hb
  · have h1 : 1 ≤ n := Nat.one_le_iff_ne_zero.mpr h0
    have hpos : 0 < pw n := by
      by_cases h255 : n = 255
      · rw [h255, pw_255]; exact EReal.zero_lt_top
      · rw [pw_eq n h1 (by omega), ← EReal.coe_zero, EReal.coe_lt_coe_iff]; positivity
    have hane : a ≠ 0 := fun h => absurd (ha h) (lt_of_lt_of_le hpos hle).ne'
    have key : rExp a v = ((((min n 252 : ℕ) : ℤ) - 126 : ℤ) : ℝ) := by
      by_cases h255 : n = 255
      · have : v = ⊤ := by rw [h255, pw_255] at hle; exact top_le_iff.mp hle
        rw [this, rExp_top a hane, h255]
        congr 1
      · have hlt' := hlt (by omega)
        have hne : v ≠ ⊤ := ne_top_of_lt hlt'
        have hnb : v ≠ ⊥ := (lt_of_lt_of_le EReal.bot_lt_zero hv).ne'
        lift v to ℝ using ⟨hne, hnb⟩
        rw [pw_eq n h1 (by omega), EReal.coe_le_coe_iff] at hle
        by_cases h254 : n = 254
        · subst h254
          rw [rExp_high a v hane (by simpa using hle)]
          norm_num
        · rw [pw_eq (n + 1) (by omega) (by omega), EReal.coe_lt_coe_iff] at hlt'
          rw [rExp_mid a v n h1 hane hle (by convert hlt' using 2; push_cast; ring)]
          congr 1
          push_cast
          rcases le_total n 252 with h | h
          · have h' : (n : ℝ) ≤ 252 := by exact_mod_cast h
            rw [min_eq_left (by linarith), min_eq_left h']
          · have h' : (252 : ℝ) ≤ n := by exact_mod_cast h
            rw [min_eq_right (by linarith), min_eq_right h']
            norm_num
    rw [key, exp2_int, zero_sub, ← EReal.coe_neg, ← Int.cast_neg, exp2_int]
    obtain ⟨k1, k2⟩ := kScale_pos v n (by omega) h1 hb
    rw [k1, k2, pw_eq _ (by omega) (by omega), pw_eq _ (by omega) (by omega)]
    constructor
    · congr 2; push_cast; ring
    · congr 2
      have : min n 252 ≤ 253 := by omega
      push_cast [Nat.cast_sub this]
      ring

end Cert.Scale

end
-- ==== Proof.Value.Spec.lean ====
/- What the problem computes over the extended reals, element by element: the scale and the codes of a group of
   numbers, in the kernel's way and in the reference's, and the gated activation. The two ways agree. -/
module

public import proofs.«01_k».proof.Proof.Value.Scale

@[expose] public section

noncomputable section

namespace Cert.Spec

open Idealize.ShloMosaic Cert.Scale

/-- The greatest absolute value of a group. -/
def amax {n : ℕ} (f : Fin n → EReal) : EReal :=
  Finset.fold max (Ideal.ofBits .f32 0xFF800000#32) (fun x => FloatOps.absf (F := Ideal) (φ := .f32) (f x)) Finset.univ

/-- It, in units of the greatest code. -/
def vmax {n : ℕ} (f : Fin n → EReal) : EReal := amax f * Ideal.ofBits .f32 0x3B124925#32

/-- The scale of a group, the kernel's way. -/
def scale {n : ℕ} (f : Fin n → EReal) : EReal := kScale (vmax f)

/-- A number's code under an inverse scale. -/
def clip (x inv : EReal) : EReal :=
  min (Ideal.ofBits .f32 0x43E00000#32) (max (Ideal.ofBits .f32 0xC3E00000#32) (x * inv))

/-- The code of one member of a group, the kernel's way. -/
def code {n : ℕ} (f : Fin n → EReal) (k : Fin n) : EReal := clip (f k) (kInv (vmax f))

/-- The scale of a group, the reference's way. -/
def rScale {n : ℕ} (f : Fin n → EReal) : EReal := Ideal.exp2 (rExp (amax f) (vmax f))

/-- The code of one member of a group, the reference's way. -/
def rCode {n : ℕ} (f : Fin n → EReal) (k : Fin n) : EReal :=
  clip (f k) (Ideal.exp2 (Ideal.ofBits .f32 0x00000000#32 - rExp (amax f) (vmax f)))

theorem amax_nonneg {n : ℕ} (hn : 0 < n) (f : Fin n → EReal) : 0 ≤ amax f := by
  unfold amax
  rw [Finset.le_fold_max]
  refine Or.inr ⟨⟨0, hn⟩, Finset.mem_univ _, ?_⟩
  show (0 : EReal) ≤ max (f ⟨0, hn⟩) (-(f ⟨0, hn⟩))
  rcases le_total 0 (f ⟨0, hn⟩) with h | h
  · exact le_max_of_le_left h
  · refine le_max_of_le_right ?_
    rw [← neg_zero]
    exact EReal.neg_le_neg_iff.mpr h

theorem unit_nonneg : 0 ≤ Ideal.ofBits .f32 0x3B124925#32 := by
  simp [Ideal.ofBits, Ideal.ieee, -EReal.coe_mul]

theorem vmax_nonneg {n : ℕ} (hn : 0 < n) (f : Fin n → EReal) : 0 ≤ vmax f :=
  mul_nonneg (amax_nonneg hn f) unit_nonneg

theorem scale_eq_ref {n : ℕ} (hn : 0 < n) (f : Fin n → EReal) : scale f = rScale f :=
  (Scale.scale_eq (amax f) (vmax f) (vmax_nonneg hn f) fun h => by unfold vmax; rw [h, zero_mul]).1

theorem code_eq_ref {n : ℕ} (hn : 0 < n) (f : Fin n → EReal) (k : Fin n) : code f k = rCode f k := by
  unfold code rCode
  rw [(Scale.scale_eq (amax f) (vmax f) (vmax_nonneg hn f) fun h => by unfold vmax; rw [h, zero_mul]).2]

/-- The gated activation, the kernel's way. -/
def gelu (g u : EReal) : EReal :=
  g * (Ideal.ofBits .f32 0x3F000000#32 * (1 + Ideal.tanh (Ideal.ofBits .f32 0x3F4C422A#32 *
    (g + Ideal.ofBits .f32 0x3D372713#32 * ((g * g) * g))))) * u

/-- The gated activation, the reference's way. -/
def rGelu (g u : EReal) : EReal :=
  g * (Ideal.ofBits .f32 0x3F000000#32 * (1 + Ideal.tanh (Ideal.ofBits .f32 0x3F4C422A#32 *
    (g + Ideal.ofBits .f32 0x3D372713#32 * (g * (g * g)))))) * u

theorem gelu_eq_ref (g u : EReal) : gelu g u = rGelu g u := by
  unfold gelu rGelu
  rw [mul_assoc g g g]

/-- A product of a row of codes with a row of weights, put back to scale. -/
def prod {n : ℕ} (x w : Fin n → EReal) (s t : EReal) : EReal := (∑ k, x k * w k) * s * t

end Cert.Spec

end
-- ==== Proof.Value.Body.lean ====
/- The two calls' bodies over the extended reals, read at an index: the quantiser's codes and scales of a row are
   those of the row's numbers, the activation's are those of each group of 128 columns. -/
module

public import proofs.«01_k».proof.Proof.KernelIdeal.Geglu
public import proofs.«01_k».proof.Proof.KernelIdeal.Quantise
public import proofs.«01_k».proof.Proof.Value.Spec
public import Idealize.ShloMosaic.Lib.Pointwise

@[expose] public section

set_option maxRecDepth 16384

noncomputable section

namespace Cert.KernelIdeal.Value

open Idealize.ShloMosaic Cert.KernelIdeal Cert.KernelIdeal.Gen Cert.Scale Cert.Spec

/-! ## The search on whole vectors -/

/-- One step of the search on a whole vector. -/
def vStep {s : Shape} (v : FVec Ideal s .f32) (K : BitVec 32) (b : IVec s 32) : IVec s 32 :=
  select (cmpf .olt v (bitcastToFloat .f32 (addi b (broadcast s K)))) b (addi b (broadcast s K))

theorem vStep_apply {s : Shape} (v : FVec Ideal s .f32) (K : BitVec 32) (b : IVec s 32) (i : s.Idx) :
    vStep v K b i = stp (v i) K (b i) := by
  unfold vStep stp
  rfl

/-- The first seven steps. -/
def vSeven {s : Shape} (v : FVec Ideal s .f32) : IVec s 32 :=
  vStep v 16777216#32 (vStep v 33554432#32 (vStep v 67108864#32 (vStep v 134217728#32
    (vStep v 268435456#32 (vStep v 536870912#32 (vStep v 1073741824#32 (broadcast s 0#32)))))))

/-- All eight are the search at each element. -/
theorem vEight_apply {s : Shape} (v : FVec Ideal s .f32) (i : s.Idx) : vStep v 8388608#32 (vSeven v) i = srch (v i) := by
  unfold vSeven
  simp only [vStep_apply]
  unfold srch
  rfl

/-- The test for a number and the cap on a whole vector. -/
def vCap {s : Shape} (v : FVec Ideal s .f32) (b : IVec s 32) : IVec s 32 :=
  select (cmpf .oeq (mulf v (broadcast s (Scalar.ofBits .f32 0x00000000#32))) (broadcast s (Scalar.ofBits .f32 0x00000000#32)))
    (minsi b (broadcast s 2113929216#32)) (broadcast s 2139095040#32)

theorem vCap_apply {s : Shape} (v : FVec Ideal s .f32) (b : IVec s 32) (i : s.Idx) (h : b i = srch (v i)) :
    vCap v b i = capped (v i) := by
  unfold capped
  rw [← h]
  unfold vCap
  simp only [select, cmpf, mulf, minsi, broadcast]
  rfl

/-! ## The quantiser -/

theorem pay7_eq (v0 : Vec Ideal S512x3712 .bf16) : k0_pay7 (F := Ideal) v0 = vSeven (k0_pay6 v0) := by
  delta k0_pay7 vSeven vStep
  rfl

theorem pay1_eq (v : FVec Ideal S512x1 .f32) (p : IVec S512x1 32) :
    k0_pay1 (F := Ideal) v p (addi p (broadcast S512x1 8388608#32)) = vCap v (vStep v 8388608#32 p) := by
  delta k0_pay1 vCap vStep
  rfl

theorem search0 (v0 : Vec Ideal S512x3712 .bf16) (i : S512x1.Idx) :
    k0_pay1 (F := Ideal) (k0_pay6 v0) (k0_pay7 v0) (k0_pay8 v0) i = capped (k0_pay6 (F := Ideal) v0 i) := by
  delta k0_pay8
  rw [pay1_eq]
  apply vCap_apply
  rw [pay7_eq]
  exact vEight_apply _ i

theorem top0 (y : FVec Ideal S512 .f32) (r : Fin 512) :
    (mulf (shapeCast S512x1 y shapeCasts_S512_S512x1) (broadcast S512x1 (Scalar.ofBits (F := Ideal) .f32 0x3B124925#32))) (ix2 r 0)
      = y (ix1 r) * Ideal.ofBits .f32 0x3B124925#32 := by
  pointwise []

theorem red0 (x : FVec Ideal S512x3712 .f32) (r : Fin 512) :
    multiReduction (F := Ideal) .maximumf [1] S512 x 0xFF800000#32 reduces_S512x3712_S512 (.inl rfl) rfl (ix1 r)
      = Finset.fold max (Ideal.ofBits .f32 0xFF800000#32) (fun k : Fin 3712 => x (ix2 r k)) Finset.univ := by
  pointwise []

theorem abs0 (v0 : Vec Ideal S512x3712 .bf16) (r : Fin 512) (k : Fin 3712) :
    absf (k0_pay5 (F := Ideal) v0) (ix2 r k) = FloatOps.absf (F := Ideal) (φ := .f32) (v0 (ix2 r k)) := by
  pointwise [k0_pay5]

theorem amax0 (v0 : Vec Ideal S512x3712 .bf16) (r : Fin 512) :
    k0_pay6 (F := Ideal) v0 (ix2 r 0) = vmax fun k : Fin 3712 => (v0 (ix2 r k) : EReal) := by
  delta k0_pay6
  refine (top0 _ r).trans ?_
  unfold vmax amax
  rw [red0]
  simp only [abs0]

/-- The quantiser's scale of a row. -/
theorem scale0 (v0 : Vec Ideal S512x3712 .bf16) (r : Fin 512) :
    k0_pay3 (F := Ideal) (k0_pay6 v0) (k0_pay7 v0) (k0_pay8 v0) (ix2 r 0) = scale fun k : Fin 3712 => (v0 (ix2 r k) : EReal) := by
  pointwise [k0_pay3, k0_pay2, search0, amax0]
  unfold scale kScale
  rw [Ideal.ofBits_one_f32]
  rfl

/-- The quantiser's code of an element. -/
theorem code0 (v0 : Vec Ideal S512x3712 .bf16) (r : Fin 512) (k : Fin 3712) :
    k0_pay4 (F := Ideal) (k0_pay5 v0) (k0_pay6 v0) (k0_pay7 v0) (k0_pay8 v0) (ix2 r k)
      = code (fun k : Fin 3712 => (v0 (ix2 r k) : EReal)) k := by
  pointwise [k0_pay4, k0_pay2, search0, amax0, k0_pay5]
  unfold code clip kInv
  rw [Ideal.ofBits_one_f32]
  rfl

/-! ## The activation -/

theorem pay8_eq (v : FVec Ideal S1024x128 .f32) : k1_pay8 (F := Ideal) v = vStep (k1_pay7 v) 8388608#32 (vSeven (k1_pay7 v)) := by
  delta k1_pay8 vSeven vStep
  rfl

theorem pay10_eq (v : FVec Ideal S1024x128 .f32) (b : IVec S1024x1 32) : k1_pay10 (F := Ideal) b (k1_pay9 v) = vCap (k1_pay7 v) b := by
  delta k1_pay10 k1_pay9 vCap
  rfl

theorem search1 (v : FVec Ideal S1024x128 .f32) (i : S1024x1.Idx) :
    k1_pay10 (F := Ideal) (k1_pay8 v) (k1_pay9 v) i = capped (k1_pay7 (F := Ideal) v i) := by
  rw [pay10_eq]
  apply vCap_apply
  rw [pay8_eq]
  exact vEight_apply _ i

theorem pay18_eq (v : FVec Ideal S1024x1 .f32) :
    k1_pay18 (F := Ideal) v k1_pay16 k1_pay17 = vCap v (vStep v 8388608#32 (vSeven v)) := by
  delta k1_pay18 k1_pay16 k1_pay17 vSeven vStep vCap
  rfl

theorem search2 (v : FVec Ideal S1024x1 .f32) (i : S1024x1.Idx) :
    k1_pay18 (F := Ideal) v k1_pay16 k1_pay17 i = capped (v i) := by
  rw [pay18_eq]
  apply vCap_apply
  exact vEight_apply _ i

theorem amax1 (v : FVec Ideal S1024x128 .f32) (r : Fin 1024) :
    k1_pay7 (F := Ideal) v (ix2 r 0) = vmax fun k : Fin 128 => (v (ix2 r k) : EReal) := by
  pointwise [k1_pay7]
  rfl

theorem amax2 (v : FVec Ideal S1024x256 .f32) (r : Fin 1024) :
    k1_pay15 (F := Ideal) v (ix2 r 0) = vmax fun k : Fin 128 => (v (ix2 r ⟨128 + k.val, by omega⟩) : EReal) := by
  pointwise [k1_pay15, k1_pay14]
  rfl

/-- The first group's code of an element. -/
theorem code1 (v : FVec Ideal S1024x128 .f32) (r : Fin 1024) (k : Fin 128) :
    k1_pay12 (F := Ideal) v (k1_pay8 v) (k1_pay9 v) (ix2 r k) = code (fun k : Fin 128 => (v (ix2 r k) : EReal)) k := by
  pointwise [k1_pay12, k1_pay11, search1, amax1]
  unfold code clip kInv
  rw [Ideal.ofBits_one_f32]
  rfl

/-- The second group's code of an element. -/
theorem code2 (v : FVec Ideal S1024x256 .f32) (r : Fin 1024) (k : Fin 128) :
    k1_pay2 (F := Ideal) (k1_pay14 v) (k1_pay18 (k1_pay15 v) k1_pay16 k1_pay17) k1_pay19 (ix2 r k)
      = code (fun k : Fin 128 => (v (ix2 r ⟨128 + k.val, by omega⟩) : EReal)) k := by
  pointwise [k1_pay2, k1_pay1, k1_pay19, k1_pay14, search2, amax2]
  unfold code clip kInv
  rw [Ideal.ofBits_one_f32]
  rfl

theorem scale_form (v : EReal) : Scalar.select (IntOp.cmpi .eq (capped v) 0#32) 1
    (Ideal.ofBits .f32 (IntOp.addi (capped v) 8388608#32)) = kScale v := by
  unfold kScale
  rw [Ideal.ofBits_one_f32]
  rfl

theorem select_eq {α : Type} {w : ℕ} (x y : BitVec w) (a b : α) :
    Scalar.select (IntOp.cmpi .eq x y) a b = if x = y then a else b := by
  by_cases h : x = y
  · simp [Scalar.select, IntOp.cmpi, h]
  · have hb : (x == y) = false := by simpa using h
    rw [if_neg h]
    simp [Scalar.select, IntOp.cmpi, hb]

/-- The scales the body leaves: a lane of its own group is that group's scale, every other lane is as found. -/
theorem scales1 (n : BitVec 32) (h : FVec Ideal S1024x256 .f32) (lo : FVec Ideal S1024x128 .f32) (y : FVec Ideal S1024x90 .f32)
    (r : Fin 1024) (l : Fin 90) :
    k1_pay3 (F := Ideal) n (iota .tc S1024x90 32 [1] iota_S1024x90_d1_w32)
      (k1_pay13 n (iota .tc S1024x90 32 [1] iota_S1024x90_d1_w32) (k1_pay5 y) (k1_pay8 lo) (k1_pay9 lo))
      (k1_pay18 (k1_pay15 h) k1_pay16 k1_pay17) k1_pay19 (ix2 r l)
    = if BitVec.ofNat 32 l.val = n * 2#32 + 1#32 then scale (fun k : Fin 128 => (h (ix2 r ⟨128 + k.val, by omega⟩) : EReal))
      else if BitVec.ofNat 32 l.val = n * 2#32 + 0#32 then scale (fun k : Fin 128 => (lo (ix2 r k) : EReal))
      else y (ix2 r l) := by
  pointwise [k1_pay3, k1_pay1, k1_pay19, k1_pay13, k1_pay11, k1_pay5, search1, search2, amax1, amax2]
  rw [scale_form, scale_form, select_eq, select_eq]
  rfl

/-- The activation at an index of the block. -/
theorem act (a : Vec Ideal S1024x3712 .fp8e4m3) (b c : Vec Ideal S256x3712 .fp8e4m3) (d : Vec Ideal S1024x1 .f32)
    (e f : Vec Ideal S1x256 .f32) (r : Fin 1024) (k : Fin 256) :
    k1_pay4 (F := Ideal) a b c d e f (ix2 r k)
      = gelu (prod (fun x : Fin 3712 => a (ix2 r x)) (fun x => b (ix2 k x)) (d (ix2 r 0)) (e (ix2 0 k)))
          (prod (fun x : Fin 3712 => a (ix2 r x)) (fun x => c (ix2 k x)) (d (ix2 r 0)) (f (ix2 0 k))) := by
  pointwise [k1_pay4]
  rfl

theorem actLo (a : Vec Ideal S1024x3712 .fp8e4m3) (b c : Vec Ideal S256x3712 .fp8e4m3) (d : Vec Ideal S1024x1 .f32)
    (e f : Vec Ideal S1x256 .f32) (r : Fin 1024) (k : Fin 128) :
    k1_pay6 (F := Ideal) a b c d e f (ix2 r k) = k1_pay4 (F := Ideal) a b c d e f (ix2 r ⟨k.val, by omega⟩) := by
  pointwise [k1_pay6]

end Cert.KernelIdeal.Value

end
-- ==== Proof.Value.Rows.lean ====
/- The whole computation over the extended reals, for one row of `x`: its hidden row, and the groups of 128 the hidden
   row is quantised in. The kernel's way and the reference's, and that they agree. -/
module

public import proofs.«01_k».proof.Proof.Value.Spec

@[expose] public section

noncomputable section

namespace Cert.Spec

open Idealize.ShloMosaic Cert.Scale

/-- One hidden number: from a row of `x`, the gate's and the up projection's rows of weights and their scales. -/
def hid (x wg wu : Fin 3712 → EReal) (tg tu : EReal) : EReal :=
  gelu (prod (code x) wg (scale x) tg) (prod (code x) wu (scale x) tu)

/-- The reference's. -/
def rHid (x wg wu : Fin 3712 → EReal) (tg tu : EReal) : EReal :=
  rGelu (prod (rCode x) wg (rScale x) tg) (prod (rCode x) wu (rScale x) tu)

theorem hid_eq_ref (x wg wu : Fin 3712 → EReal) (tg tu : EReal) : hid x wg wu tg tu = rHid x wg wu tg tu := by
  have h : code x = rCode x := funext fun k => code_eq_ref (by decide) x k
  unfold hid rHid
  rw [h, scale_eq_ref (by decide) x, gelu_eq_ref]

/-- The hidden row. -/
def hRow (x : Fin 3712 → EReal) (w : Fin 23040 → Fin 3712 → EReal) (s : Fin 23040 → EReal) (f : Fin 11520) : EReal :=
  hid x (w ⟨f.val, by omega⟩) (w ⟨11520 + f.val, by omega⟩) (s ⟨f.val, by omega⟩) (s ⟨11520 + f.val, by omega⟩)

/-- The reference's. -/
def rRow (x : Fin 3712 → EReal) (w : Fin 23040 → Fin 3712 → EReal) (s : Fin 23040 → EReal) (f : Fin 11520) : EReal :=
  rHid x (w ⟨f.val, by omega⟩) (w ⟨11520 + f.val, by omega⟩) (s ⟨f.val, by omega⟩) (s ⟨11520 + f.val, by omega⟩)

theorem hRow_eq_ref (x w s) : hRow x w s = rRow x w s := funext fun _ => hid_eq_ref _ _ _ _ _

/-- Group `l` of a hidden row. -/
def grp (h : Fin 11520 → EReal) (l : Fin 90) (k : Fin 128) : EReal := h ⟨l.val * 128 + k.val, by omega⟩

/-- The scale of group `l`. -/
def hScale (h : Fin 11520 → EReal) (l : Fin 90) : EReal := scale (grp h l)
/-- The code at column `f`, of its group. -/
def hCode (h : Fin 11520 → EReal) (f : Fin 11520) : EReal := code (grp h ⟨f.val / 128, by omega⟩) ⟨f.val % 128, by omega⟩

theorem hScale_eq_ref (h l) : hScale h l = rScale (grp h l) := scale_eq_ref (by decide) _
theorem hCode_eq_ref (h : Fin 11520 → EReal) (f : Fin 11520) :
    hCode h f = rCode (grp h ⟨f.val / 128, by omega⟩) ⟨f.val % 128, by omega⟩ := code_eq_ref (by decide) _ _

end Cert.Spec

end
-- ==== Proof.Value.Quantised.lean ====
/- The first call over the extended reals: the codes and scales it leaves are those of the rows of its input. -/
module

public import proofs.«01_k».proof.Proof.Value.Body
public import proofs.«01_k».proof.Proof.Value.Rows
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run Cert.Scale Cert.Spec

theorem hz : (![0, 0] : Fin 2 → Nat) = fun _ => 0 := funext fun a => by fin_cases a <;> rfl

theorem out0_1_apply (x : FVec Ideal S512x3712 .bf16) (r : Fin 512) (k : Fin 3712) :
    out0_1 (F := Ideal) x (ix2 r k) = code (fun k : Fin 3712 => (x (ix2 r k) : EReal)) k := by
  unfold out0_1
  rw [View.canon_unit_zero hz, View.ld_unit_zero hz]
  exact code0 x r k

theorem out0_2_apply (x : FVec Ideal S512x3712 .bf16) (r : Fin 512) :
    out0_2 (F := Ideal) x (ix2 r 0) = scale (fun k : Fin 3712 => (x (ix2 r k) : EReal)) := by
  unfold out0_2
  rw [View.canon_unit_zero hz, View.ld_unit_zero hz]
  exact scale0 x r

theorem idx0 : ∀ t : Fin cfg0.N, win0_0.index t = ![t.val, 0] ∧ win0_1.index t = ![t.val, 0] ∧ win0_2.index t = ![t.val, 0] ∧ t.val < 32 :=
  (by decide +kernel : ∀ t : Fin grid0.N, _)

variable (V : (c : Dev nD) → (b : Ref sig .tc) → Buf (Elt Ideal) ((c : Thread nD τ).loc b))

/-- Row `R` of the numbers the first call quantises. -/
def rowIn (c : Dev nD) (R : Fin 16384) (k : Fin 3712) : EReal := (V c main_v0 : FVec Ideal S16384x3712 .bf16) (ix2 R k)

theorem iblk0_row (c : Dev nD) (t : Fin cfg0.N) (r : Fin 512) (k : Fin 3712) (R : Fin 16384) (hR : R.val = 512 * t.val + r.val) :
    iblk0 V c 0 t (ix2 r k) = rowIn V c R k := by
  have h := (idx0 t).1
  unfold rowIn
  blk_ext [iblk0, h]

/-- The codes the first call leaves. -/
def qCodes (c : Dev nD) : FVec Ideal S16384x3712 .fp8e4m3 := fun i => code (rowIn V c (i 0)) (i 1)
/-- The scales the first call leaves. -/
def qScales (c : Dev nD) : FVec Ideal S16384x1 .f32 := fun i => scale (rowIn V c (i 0))

theorem qCodes_at (c : Dev nD) (R : Fin 16384) (k : Fin 3712) : qCodes V c (ix2 R k) = code (rowIn V c R) k := rfl
theorem qScales_at (c : Dev nD) (R : Fin 16384) (z : Fin 1) : qScales V c (ix2 R z) = scale (rowIn V c R) := rfl

theorem point0_1 (c : Dev nD) (t : Fin cfg0.N) (r : Fin 512) (k : Fin 3712) (R : Fin 16384) (hR : R.val = 512 * t.val + r.val) :
    out0_1 (iblk0 V c 0 t) (ix2 r k) = qCodes V c (ix2 R k) := by
  refine (out0_1_apply _ r k).trans ?_
  rw [qCodes_at]
  exact congrArg (fun f => code f k) (funext fun k => iblk0_row V c t r k R hR)

theorem point0_2 (c : Dev nD) (t : Fin cfg0.N) (r : Fin 512) (z : Fin 1) (R : Fin 16384) (hR : R.val = 512 * t.val + r.val) :
    out0_2 (iblk0 V c 0 t) (ix2 r z) = qScales V c (ix2 R z) := by
  obtain rfl : z = 0 := Subsingleton.elim _ _
  refine (out0_2_apply _ r).trans ?_
  rw [qScales_at]
  exact congrArg scale (funext fun k => iblk0_row V c t r k R hR)

theorem final0_1 (c : Dev nD) : (dat0 V c).arrAt 1 cfg0.N = qCodes V c := by
  refine (dat0 V c).arrAt_eq_of_covers 1 _ (by decide +kernel) fun t _ y => ?_
  blk_simp
  rw [after0_1]
  have h := (idx0 t).2.1
  have ht := (idx0 t).2.2.2
  idx_vars y
  have e : ((View.whole main_v1_0).slice (win0_1.rect t)).emb (ix2 y0 y1) = ix2 (n0 := 16384) (n1 := 3712) ⟨512 * t.val + y0.val, by omega⟩ y1 := by
    blk_ext [h]
  rw [e]
  exact point0_1 V c t y0 y1 _ rfl

theorem final0_2 (c : Dev nD) : (dat0 V c).arrAt 2 cfg0.N = qScales V c := by
  refine (dat0 V c).arrAt_eq_of_covers 2 _ (by decide +kernel) fun t _ y => ?_
  blk_simp
  rw [after0_2]
  have h := (idx0 t).2.2.1
  have ht := (idx0 t).2.2.2
  idx_vars y
  have e : ((View.whole main_v1_1).slice (win0_2.rect t)).emb (ix2 y0 y1) = ix2 (n0 := 16384) (n1 := 1) ⟨512 * t.val + y0.val, by omega⟩ y1 := by
    blk_ext [h]
  rw [e]
  exact point0_2 V c t y0 y1 _ rfl

end Cert.KernelIdeal.Value

end
-- ==== Proof.Value.Hidden.lean ====
/- The second call over the extended reals: the codes it leaves are those of the groups of the hidden rows, and its
   scales, gathered over the column blocks of a row block, are the groups' scales. -/
module

public import proofs.«01_k».proof.Proof.Value.Quantised
public import Idealize.ShloMosaic.Lib.Pipeline.ArrRel

@[expose] public section

set_option maxRecDepth 16384

noncomputable section

namespace Cert.KernelIdeal.Value

open Idealize.ShloMosaic Idealize.ShloMosaic.TcCoe Idealize.SL.Sem
open Idealize.ShloMosaic.Pipeline (Dat RDat)
open Cert.KernelIdeal Cert.KernelIdeal.Gen Cert.KernelIdeal.Run Cert.Scale Cert.Spec

/-! ## What one block of the body holds -/

theorem hCode_at (h : Fin 11520 → EReal) (f : Fin 11520) (l : Fin 90) (k : Fin 128) (hf : f.val = l.val * 128 + k.val) :
    hCode h f = code (grp h l) k := by
  have e1 : (⟨f.val / 128, by omega⟩ : Fin 90) = l := Fin.ext (by simp only; omega)
  have e2 : (⟨f.val % 128, by omega⟩ : Fin 128) = k := Fin.ext (by simp only; omega)
  unfold hCode
  rw [e1, e2]

section Block
variable (x0 : FVec Ideal S1024x3712 .fp8e4m3) (x1 : FVec Ideal S1024x1 .f32) (x2 x3 : FVec Ideal S256x3712 .fp8e4m3) (x4 x5 : FVec Ideal S1x256 .f32)

theorem hAll_at (r : Fin 1024) (k : Fin 256) : hAll (F := Ideal) x0 x1 x2 x3 x4 x5 (ix2 r k)
    = gelu (prod (fun x : Fin 3712 => x0 (ix2 r x)) (fun x => x2 (ix2 k x)) (x1 (ix2 r 0)) (x4 (ix2 0 k)))
        (prod (fun x : Fin 3712 => x0 (ix2 r x)) (fun x => x3 (ix2 k x)) (x1 (ix2 r 0)) (x5 (ix2 0 k))) := by
  unfold hAll
  rw [View.ld_unit_zero hz, View.ld_unit_zero hz, View.ld_unit_zero hz, View.ld_unit_zero hz, View.ld_unit_zero hz, View.ld_unit_zero hz]
  exact act x0 x2 x3 x1 x4 x5 r k

theorem hLo_at (r : Fin 1024) (k : Fin 128) :
    hLo (F := Ideal) x0 x1 x2 x3 x4 x5 (ix2 r k) = hAll (F := Ideal) x0 x1 x2 x3 x4 x5 (ix2 r ⟨k.val, by omega⟩) := by
  unfold hLo hAll
  exact actLo _ _ _ _ _ _ r k

/-- The codes in the first 128 columns, -/
theorem out1_6_lo (r : Fin 1024) (k : Fin 256) (k' : Fin 128) (hk : k.val = k'.val) :
    out1_6 (F := Ideal) x0 x1 x2 x3 x4 x5 (ix2 r k)
      = code (fun k : Fin 128 => (hAll (F := Ideal) x0 x1 x2 x3 x4 x5 (ix2 r ⟨k.val, by omega⟩) : EReal)) k' := by
  unfold out1_6
  have e : (fun k : Fin 128 => (hLo (F := Ideal) x0 x1 x2 x3 x4 x5 (ix2 r k) : EReal))
      = fun k : Fin 128 => (hAll (F := Ideal) x0 x1 x2 x3 x4 x5 (ix2 r ⟨k.val, by omega⟩) : EReal) := funext fun k => hLo_at x0 x1 x2 x3 x4 x5 r k
  rw [← e, ← code1]
  generalize hLo (F := Ideal) x0 x1 x2 x3 x4 x5 = h
  generalize k1_pay2 (F := Ideal) _ _ _ = p
  generalize k1_pay12 (F := Ideal) h _ _ = q
  canon_tiles x h
  · have e0 : r.val = (x 0).val := h0
    have e1 : k.val = 128 + (x 1).val := h1
    exfalso; omega
  · have e0 : r.val = (x 0).val := h0
    have e1 : k.val = (x 1).val := by have h2 := h1; simpa using h2
    blk_ext

/-- and in the other 128. -/
theorem out1_6_hi (r : Fin 1024) (k : Fin 256) (k' : Fin 128) (hk : k.val = 128 + k'.val) :
    out1_6 (F := Ideal) x0 x1 x2 x3 x4 x5 (ix2 r k)
      = code (fun k : Fin 128 => (hAll (F := Ideal) x0 x1 x2 x3 x4 x5 (ix2 r ⟨128 + k.val, by omega⟩) : EReal)) k' := by
  unfold out1_6
  rw [← code2]
  unfold bitsHi
  generalize k1_pay2 (F := Ideal) _ _ _ = p
  generalize k1_pay12 (F := Ideal) _ _ _ = q
  canon_tiles x h
  · have e0 : r.val = (x 0).val := h0
    have e1 : k.val = 128 + (x 1).val := h1
    blk_ext
  · have e0 : r.val = (x 0).val := h0
    have e1 : k.val = (x 1).val := by have h2 := h1; simpa using h2
    exfalso; omega

/-- The scales: the two lanes of this column block's groups, the others as found. -/
theorem out1_7_at (n : BitVec 32) (y : FVec Ideal S1024x90 .f32) (r : Fin 1024) (l : Fin 90) :
    out1_7 (F := Ideal) n x0 x1 x2 x3 x4 x5 y (ix2 r l)
      = if BitVec.ofNat 32 l.val = n * 2#32 + 1#32 then scale (fun k : Fin 128 => (hAll (F := Ideal) x0 x1 x2 x3 x4 x5 (ix2 r ⟨128 + k.val, by omega⟩) : EReal))
        else if BitVec.ofNat 32 l.val = n * 2#32 + 0#32 then scale (fun k : Fin 128 => (hAll (F := Ideal) x0 x1 x2 x3 x4 x5 (ix2 r ⟨k.val, by omega⟩) : EReal))
        else y (ix2 r l) := by
  have e : (fun k : Fin 128 => (hLo (F := Ideal) x0 x1 x2 x3 x4 x5 (ix2 r k) : EReal))
      = fun k : Fin 128 => (hAll (F := Ideal) x0 x1 x2 x3 x4 x5 (ix2 r ⟨k.val, by omega⟩) : EReal) := funext fun k => hLo_at x0 x1 x2 x3 x4 x5 r k
  rw [← e]
  unfold out1_7 bitsHi
  rw [View.canon_unit_zero hz, View.ld_unit_zero hz]
  exact Value.scales1 n _ _ y r l
end Block

/-! ## The blocks of the arrays -/

theorem idx1 : ∀ t : Fin cfg1.N, win1_0.index t = ![t.val / 45, 0] ∧ win1_1.index t = ![t.val / 45, 0] ∧ win1_2.index t = ![t.val % 45, 0]
    ∧ win1_3.index t = ![t.val % 45 + 45, 0] ∧ win1_4.index t = ![0, t.val % 45] ∧ win1_5.index t = ![0, t.val % 45 + 45]
    ∧ win1_6.index t = ![t.val / 45, t.val % 45] ∧ win1_7.index t = ![t.val / 45, 0] ∧ t.val / 45 < 16 ∧ (grid1.coords t 1).val = t.val % 45 :=
  (by decide +kernel : ∀ t : Fin grid1.N, _)

theorem fetch1_7 : ∀ t : Fin cfg1.N, (cfg1.win 7).fetch t = false :=
  (by decide +kernel : ∀ t : Fin grid1.N, _)

variable (V : (c : Dev nD) → (b : Ref sig .tc) → Buf (Elt Ideal) ((c : Thread nD τ).loc b))

/-- The codes of row `R` that the second call is given, -/
def qrow (c : Dev nD) (R : Fin 16384) (k : Fin 3712) : EReal := (V c main_v1_0 : FVec Ideal S16384x3712 .fp8e4m3) (ix2 R k)
/-- their scale, -/
def qsc (c : Dev nD) (R : Fin 16384) : EReal := (V c main_v1_1 : FVec Ideal S16384x1 .f32) (ix2 R 0)
/-- the weights, -/
def wrow (c : Dev nD) (f : Fin 23040) (k : Fin 3712) : EReal := (V c main_arg1 : FVec Ideal S23040x3712 .fp8e4m3) (ix2 f k)
/-- and theirs. -/
def wsc (c : Dev nD) (f : Fin 23040) : EReal := (V c main_v2 : FVec Ideal S1x23040 .f32) (ix2 0 f)

/-- The hidden row `R`. -/
def hidV (c : Dev nD) (R : Fin 16384) (f : Fin 11520) : EReal :=
  gelu (prod (qrow V c R) (wrow V c ⟨f.val, by omega⟩) (qsc V c R) (wsc V c ⟨f.val, by omega⟩))
    (prod (qrow V c R) (wrow V c ⟨11520 + f.val, by omega⟩) (qsc V c R) (wsc V c ⟨11520 + f.val, by omega⟩))

theorem iblk1_0 (c : Dev nD) (t : Fin cfg1.N) (r : Fin 1024) (k : Fin 3712) (R : Fin 16384) (hR : R.val = 1024 * (t.val / 45) + r.val) :
    iblk1 V c 0 t (ix2 r k) = qrow V c R k := by
  have h := (idx1 t).1
  unfold qrow
  blk_ext [iblk1, h]
theorem iblk1_1 (c : Dev nD) (t : Fin cfg1.N) (r : Fin 1024) (R : Fin 16384) (hR : R.val = 1024 * (t.val / 45) + r.val) :
    iblk1 V c 1 t (ix2 r 0) = qsc V c R := by
  have h := (idx1 t).2.1
  unfold qsc
  blk_ext [iblk1, h]
theorem iblk1_2 (c : Dev nD) (t : Fin cfg1.N) (k : Fin 256) (x : Fin 3712) (f : Fin 23040) (hf : f.val = 256 * (t.val % 45) + k.val) :
    iblk1 V c 2 t (ix2 k x) = wrow V c f x := by
  have h := (idx1 t).2.2.1
  unfold wrow
  blk_ext [iblk1, h]
theorem iblk1_3 (c : Dev nD) (t : Fin cfg1.N) (k : Fin 256) (x : Fin 3712) (f : Fin 23040) (hf : f.val = 11520 + (256 * (t.val % 45) + k.val)) :
    iblk1 V c 3 t (ix2 k x) = wrow V c f x := by
  have h := (idx1 t).2.2.2.1
  unfold wrow
  blk_ext [iblk1, h]
theorem iblk1_4 (c : Dev nD) (t : Fin cfg1.N) (k : Fin 256) (f : Fin 23040) (hf : f.val = 256 * (t.val % 45) + k.val) :
    iblk1 V c 4 t (ix2 0 k) = wsc V c f := by
  have h := (idx1 t).2.2.2.2.1
  unfold wsc
  blk_ext [iblk1, h]
theorem iblk1_5 (c : Dev nD) (t : Fin cfg1.N) (k : Fin 256) (f : Fin 23040) (hf : f.val = 11520 + (256 * (t.val % 45) + k.val)) :
    iblk1 V c 5 t (ix2 0 k) = wsc V c f := by
  have h := (idx1 t).2.2.2.2.2.1
  unfold wsc
  blk_ext [iblk1, h]

/-- The activations of the block at point `t`. -/
def blkH (c : Dev nD) (t : Fin cfg1.N) : FVec Ideal S1024x256 .f32 :=
  hAll (iblk1 V c 0 t) (iblk1 V c 1 t) (iblk1 V c 2 t) (iblk1 V c 3 t) (iblk1 V c 4 t) (iblk1 V c 5 t)

theorem blkH_at (c : Dev nD) (t : Fin cfg1.N) (r : Fin 1024) (k : Fin 256) (R : Fin 16384) (f : Fin 11520)
    (hR : R.val = 1024 * (t.val / 45) + r.val) (hf : f.val = 256 * (t.val % 45) + k.val) :
    blkH V c t (ix2 r k) = hidV V c R f := by
  unfold blkH hidV
  refine (hAll_at _ _ _ _ _ _ r k).trans ?_
  have e0 : (fun x : Fin 3712 => (iblk1 V c 0 t (ix2 r x) : EReal)) = qrow V c R := funext fun x => iblk1_0 V c t r x R hR
  have e2 : (fun x : Fin 3712 => (iblk1 V c 2 t (ix2 k x) : EReal)) = wrow V c ⟨f.val, by omega⟩ := funext fun x => iblk1_2 V c t k x _ hf
  have e3 : (fun x : Fin 3712 => (iblk1 V c 3 t (ix2 k x) : EReal)) = wrow V c ⟨11520 + f.val, by omega⟩ :=
    funext fun x => iblk1_3 V c t k x _ (congrArg (11520 + ·) hf)
  rw [e0, e2, e3, iblk1_1 V c t r R hR, iblk1_4 V c t k ⟨f.val, by omega⟩ hf, iblk1_5 V c t k ⟨11520 + f.val, by omega⟩ (congrArg (11520 + ·) hf)]

/-- A group of a block's row is the hidden row's. -/
theorem grp_lo (c : Dev nD) (t : Fin cfg1.N) (r : Fin 1024) (R : Fin 16384) (l : Fin 90)
    (hR : R.val = 1024 * (t.val / 45) + r.val) (hl : l.val = 2 * (t.val % 45)) :
    (fun k : Fin 128 => (blkH V c t (ix2 r ⟨k.val, by omega⟩) : EReal)) = grp (hidV V c R) l :=
  funext fun k => blkH_at V c t r _ R ⟨l.val * 128 + k.val, by omega⟩ hR (by simp only; omega)
theorem grp_hi (c : Dev nD) (t : Fin cfg1.N) (r : Fin 1024) (R : Fin 16384) (l : Fin 90)
    (hR : R.val = 1024 * (t.val / 45) + r.val) (hl : l.val = 2 * (t.val % 45) + 1) :
    (fun k : Fin 128 => (blkH V c t (ix2 r ⟨128 + k.val, by omega⟩) : EReal)) = grp (hidV V c R) l :=
  funext fun k => blkH_at V c t r _ R ⟨l.val * 128 + k.val, by omega⟩ hR (by simp only; omega)

/-! ## The codes -/

/-- The codes the second call leaves. -/
def hCodes (c : Dev nD) : FVec Ideal S16384x11520 .fp8e4m3 := fun i => hCode (hidV V c (i 0)) (i 1)
/-- The scales the second call leaves. -/
def hScales (c : Dev nD) : FVec Ideal S16384x90 .f32 := fun i => hScale (hidV V c (i 0)) (i 1)

theorem hCodes_at (c : Dev nD) (R : Fin 16384) (f : Fin 11520) : hCodes V c (ix2 R f) = hCode (hidV V c R) f := rfl
theorem hScales_at (c : Dev nD) (R : Fin 16384) (l : Fin 90) : hScales V c (ix2 R l) = hScale (hidV V c R) l := rfl

theorem codes1_at (c : Dev nD) (t : Fin cfg1.N) (r : Fin 1024) (k : Fin 256) (R : Fin 16384) (f : Fin 11520)
    (hR : R.val = 1024 * (t.val / 45) + r.val) (hf : f.val = 256 * (t.val % 45) + k.val) :
    codes1 V c t (ix2 r k) = hCodes V c (ix2 R f) := by
  rw [hCodes_at]
  unfold codes1
  have hm : t.val % 45 < 45 := Nat.mod_lt _ (by decide)
  by_cases hk : k.val < 128
  · rw [hCode_at _ f ⟨2 * (t.val % 45), by omega⟩ ⟨k.val, hk⟩ (by simp only; omega)]
    refine (out1_6_lo _ _ _ _ _ _ r k ⟨k.val, hk⟩ rfl).trans ?_
    exact congrArg (fun g => code g ⟨k.val, hk⟩) (grp_lo V c t r R _ hR rfl)
  · rw [hCode_at _ f ⟨2 * (t.val % 45) + 1, by omega⟩ ⟨k.val - 128, by omega⟩ (by simp only; omega)]
    refine (out1_6_hi _ _ _ _ _ _ r k ⟨k.val - 128, by omega⟩ (by simp only; omega)).trans ?_
    exact congrArg (fun g => code g ⟨k.val - 128, by omega⟩) (grp_hi V c t r R _ hR rfl)

theorem leaves1_6 (c : Dev nD) (t : Fin cfg1.N) (X) (h : (rd1 V c).Leaves 6 t X) : X = codes1 V c t := by
  obtain ⟨Y, -, hX⟩ := h
  unfold rd1 at hX
  rw [(dat1 V c).toR.override_after_of_eq_none (ovr := ovr1 V c) rfl] at hX
  exact Eq.trans hX (after1_6 V c t)

theorem final1_6 (c : Dev nD) (G) (hG : (rd1 V c).ArrAt 6 cfg1.N G) : G = hCodes V c := by
  obtain ⟨X, hX, hA⟩ := hG.exists_exact
  rw [hA (Function.update (fun _ _ _ => Classical.arbitrary _) 6 X) fun u _ _ => by rw [Function.update_self]]
  refine Dat.arrAt_eq_of_covers _ 6 _ (by decide +kernel) fun t hf y => ?_
  blk_simp
  rw [RDat.withAfter_after, Function.update_self, leaves1_6 V c t _ (hX t t.isLt hf)]
  have h := (idx1 t).2.2.2.2.2.2.1
  have ht := (idx1 t).2.2.2.2.2.2.2.2.1
  have hm : t.val % 45 < 45 := Nat.mod_lt _ (by decide)
  idx_vars y
  have e : ((View.whole main_v3_0).slice (win1_6.rect t)).emb (ix2 y0 y1)
      = ix2 (n0 := 16384) (n1 := 11520) ⟨1024 * (t.val / 45) + y0.val, by omega⟩ ⟨256 * (t.val % 45) + y1.val, by omega⟩ := by
    blk_ext [h]
  rw [e]
  exact codes1_at V c t y0 y1 _ _ rfl rfl

/-! ## The scales -/

theorem lane_eq (a b : Nat) (ha : a < 90) (hb : b < 45) (d : Nat) (hd : d < 2) :
    BitVec.ofNat 32 a = BitVec.ofNat 32 b * 2#32 + BitVec.ofNat 32 d ↔ a = 2 * b + d := by
  rw [← BitVec.toNat_inj]
  simp only [BitVec.toNat_add, BitVec.toNat_mul, BitVec.toNat_ofNat]
  omega

theorem scales1_at (c : Dev nD) (t : Fin cfg1.N) (Y : FVec Ideal S1024x90 .f32) (r : Fin 1024) (l : Fin 90) (R : Fin 16384)
    (hR : R.val = 1024 * (t.val / 45) + r.val) :
    Run.scales1 V c t Y (ix2 r l)
      = if l.val = 2 * (t.val % 45) + 1 ∨ l.val = 2 * (t.val % 45) then hScale (hidV V c R) l else Y (ix2 r l) := by
  have hm : t.val % 45 < 45 := Nat.mod_lt _ (by decide)
  have hc : (grid1.coords t 1).val = t.val % 45 := (idx1 t).2.2.2.2.2.2.2.2.2
  unfold Run.scales1 colOf
  refine (out1_7_at _ _ _ _ _ _ _ Y r l).trans ?_
  rw [hc]
  by_cases h1 : l.val = 2 * (t.val % 45) + 1
  · rw [if_pos ((lane_eq _ _ l.isLt hm 1 (by decide)).mpr h1), if_pos (Or.inl h1)]
    exact congrArg scale (grp_hi V c t r R l hR h1)
  · rw [if_neg fun h => h1 ((lane_eq _ _ l.isLt hm 1 (by decide)).mp h)]
    by_cases h0 : l.val = 2 * (t.val % 45)
    · rw [if_pos ((lane_eq _ _ l.isLt hm 0 (by decide)).mpr h0), if_pos (Or.inr h0)]
      exact congrArg scale (grp_lo V c t r R l hR h0)
    · rw [if_neg fun h => h0 ((lane_eq _ _ l.isLt hm 0 (by decide)).mp h), if_neg (by rintro (h | h) <;> contradiction)]

/-- After point `t` the lanes of the column blocks up to `t`'s hold their groups' scales. -/
theorem leaves1_7 (c : Dev nD) (n : Nat) : ∀ (t : Fin cfg1.N) (X : FVec Ideal S1024x90 .f32), t.val = n → (rd1 V c).Leaves 7 t X →
    ∀ (r : Fin 1024) (l : Fin 90) (R : Fin 16384), R.val = 1024 * (t.val / 45) + r.val → l.val ≤ 2 * (t.val % 45) + 1 →
      X (ix2 r l) = hScale (hidV V c R) l := by
  induction n using Nat.strong_induction_on with
  | _ n ih =>
    intro t X hn hX r l R hR hl
    obtain ⟨Y, hY, hX⟩ := hX
    have hX' : X = Run.scales1 V c t Y := by
      unfold rd1 at hX
      rw [(dat1 V c).toR.override_after_of_eq_some (ovr := ovr1 V c) (w := 7) rfl] at hX
      exact hX
    rw [hX']
    refine (scales1_at V c t Y r l R hR).trans ?_
    by_cases h : l.val = 2 * (t.val % 45) + 1 ∨ l.val = 2 * (t.val % 45)
    · rw [if_pos h]
    · rw [if_neg h]
      have ht0 : t.val ≠ 0 := by intro h0; rw [h0] at hl h; omega
      rw [(rd1 V c).finds_of_pos (fetch1_7 t) ht0] at hY
      rcases hY with hY | hY
      · have hf := (flush1_7 _).mp hY
        simp only at hf
        exfalso; omega
      · exact ih (t.val - 1) (by omega) ⟨t.val - 1, Nat.lt_of_le_of_lt (Nat.sub_le _ _) t.isLt⟩ Y rfl hY r l R
          (by simp only; omega) (by simp only; omega)

theorem final1_7 (c : Dev nD) (G) (hG : (rd1 V c).ArrAt 7 cfg1.N G) : G = hScales V c := by
  obtain ⟨X, hX, hA⟩ := hG.exists_exact
  rw [hA (Function.update (fun _ _ _ => Classical.arbitrary _) 7 X) fun u _ _ => by rw [Function.update_self]]
  refine Dat.arrAt_eq_of_covers _ 7 _ (by decide +kernel) fun t hf y => ?_
  blk_simp
  rw [RDat.withAfter_after, Function.update_self]
  have h := (idx1 t).2.2.2.2.2.2.2.1
  have ht := (idx1 t).2.2.2.2.2.2.2.2.1
  have h44 := (flush1_7 t).mp hf
  idx_vars y
  have e : ((View.whole main_v3_1).slice (win1_7.rect t)).emb (ix2 y0 y1)
      = ix2 (n0 := 16384) (n1 := 90) ⟨1024 * (t.val / 45) + y0.val, by omega⟩ y1 := by
    blk_ext [h]
  rw [e]
  exact leaves1_7 V c t.val t (X t) rfl (hX t t.isLt hf) y0 y1 _ rfl (by omega)

end Cert.KernelIdeal.Value

end
-- ==== Proof.Value.Reference.lean ====
/- The reference over the extended reals: its four results, element by element, in terms of its arguments. -/
module

public import proofs.«01_k».proof.Proof.Gen.ReferenceIdeal.Frame
public import proofs.«01_k».proof.Proof.Value.Rows
public import Idealize.ShloMosaic.Lib.Pipeline.ValueKit
public import Idealize.ShloMosaic.Lib.Pointwise

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Scale Cert.Spec

/-! ## The body's values at an index -/

/-- The exponent chosen for the greatest absolute values `a`. -/
def vExp {s : Shape} (a : FVec Ideal s .f32) : FVec Ideal s .f32 :=
  have v := mulf a (broadcast s (Scalar.ofBits .f32 0x3B124925#32))
  select (cmpf .oeq a (broadcast s (Scalar.ofBits .f32 0x00000000#32))) (broadcast s (Scalar.ofBits .f32 0x00000000#32))
    (select (cmpf .olt v (broadcast s (Scalar.ofBits .f32 0x00800000#32))) (broadcast s (Scalar.ofBits .f32 0x00000000#32))
      (minimumf (addf (floor (divf (log v) (log (broadcast s (Scalar.ofBits .f32 0x40000000#32)))))
        (broadcast s (Scalar.ofBits .f32 0x3F800000#32))) (broadcast s (Scalar.ofBits .f32 0x42FC0000#32))))

theorem vExp_apply {s : Shape} (a : FVec Ideal s .f32) (i : s.Idx) :
    vExp a i = rExp (a i) (a i * Ideal.ofBits .f32 0x3B124925#32) := by
  unfold vExp rExp
  rfl

theorem red3 (x : FVec Ideal S2x8192x3712 .f32) (b : Fin 2) (r : Fin 8192) :
    shapeCast S2x8192x1 (multiReduction (F := Ideal) .maximumf [2] S2x8192 x 0xFF800000#32 reduces_S2x8192x3712_S2x8192 (.inl rfl) rfl)
        shapeCasts_S2x8192_S2x8192x1 (ix3 b r 0)
      = Finset.fold max (Ideal.ofBits .f32 0xFF800000#32) (fun k : Fin 3712 => x (ix3 b r k)) Finset.univ := by
  pointwise []

theorem abs3 (v0 : FVec Ideal S2x8192x3712 .bf16) (b : Fin 2) (r : Fin 8192) (k : Fin 3712) :
    absf (k0_pay3 (F := Ideal) v0) (ix3 b r k) = FloatOps.absf (F := Ideal) (φ := .f32) (v0 (ix3 b r k)) := by
  pointwise [k0_pay3]

theorem pay4_eq (v0 : FVec Ideal S2x8192x3712 .bf16) :
    k0_pay4 (F := Ideal) v0 = vExp (shapeCast S2x8192x1 (multiReduction (F := Ideal) .maximumf [2] S2x8192 (absf (k0_pay3 (F := Ideal) v0)) 0xFF800000#32 reduces_S2x8192x3712_S2x8192 (.inl rfl) rfl)
        shapeCasts_S2x8192_S2x8192x1) := by
  delta k0_pay4 vExp
  rfl

theorem pay4 (v0 : FVec Ideal S2x8192x3712 .bf16) (b : Fin 2) (r : Fin 8192) :
    k0_pay4 (F := Ideal) v0 (ix3 b r 0) = rExp (amax fun k => v0 (ix3 b r k)) (vmax fun k => v0 (ix3 b r k)) := by
  rw [pay4_eq, vExp_apply]
  unfold vmax amax
  rw [red3]
  simp only [abs3]

theorem exp_at {s : Shape} (e : FVec Ideal s .f32) (i : s.Idx) : exp2 e i = Ideal.exp2 (e i) := rfl

theorem pay5 (v0 : FVec Ideal S2x8192x3712 .bf16) (b : Fin 2) (r : Fin 8192) :
    k0_pay5 (F := Ideal) v0 (ix3 b r 0) = rScale fun k => v0 (ix3 b r k) := by
  unfold rScale
  rw [← pay4 v0 b r]
  delta k0_pay5
  exact exp_at _ _

/-- A block of numbers as codes under the inverse scales `2 ^ (-e)`. -/
def vCode (x : FVec Ideal S2x8192x3712 .f32) (e : FVec Ideal S2x8192x1 .f32) : FVec Ideal S2x8192x3712 .fp8e4m3 :=
  truncf .fp8e4m3 (minimumf (broadcast S2x8192x3712 (Scalar.ofBits .f32 0x43E00000#32))
    (maximumf (broadcast S2x8192x3712 (Scalar.ofBits .f32 0xC3E00000#32))
      (mulf x (broadcastTo S2x8192x3712 (exp2 (subf (broadcast S2x8192x1 (Scalar.ofBits .f32 0x00000000#32)) e)) broadcasts_S2x8192x1_S2x8192x3712))))
    bitsLt_fp8e4m3_f32

theorem vCode_apply (x : FVec Ideal S2x8192x3712 .f32) (e : FVec Ideal S2x8192x1 .f32) (b : Fin 2) (r : Fin 8192) (k : Fin 3712) :
    vCode x e (ix3 b r k) = clip (x (ix3 b r k)) (Ideal.exp2 (Ideal.ofBits .f32 0x00000000#32 - e (ix3 b r 0))) := by
  unfold clip
  rw [Ideal.ofBits_zero]
  pointwise [vCode]
  rfl

theorem pay6 (v0 : FVec Ideal S2x8192x3712 .bf16) (b : Fin 2) (r : Fin 8192) (k : Fin 3712) :
    k0_pay6 (F := Ideal) v0 (ix3 b r k) = rCode (fun k => v0 (ix3 b r k)) k := by
  unfold rCode
  rw [← pay4 v0 b r]
  exact vCode_apply (k0_pay3 v0) (k0_pay4 v0) b r k

theorem pay7 (v0 : FVec Ideal S2x8192x3712 .bf16) (w : FVec Ideal S23040x3712 .fp8e4m3) (b : Fin 2) (r : Fin 8192) (f : Fin 23040) :
    k0_pay7 (F := Ideal) v0 w (ix3 b r f)
      = (∑ k, rCode (fun k => v0 (ix3 b r k)) k * w (ix2 f k)) * rScale fun k => v0 (ix3 b r k) := by
  pointwise [k0_pay7]
  rw [pay5]
  simp only [pay6]

theorem pay8 (y : FVec Ideal S2x8192x23040 .f32) (s : FVec Ideal S23040 .f32) (b : Fin 2) (r : Fin 8192) (l : Fin 90) (k : Fin 128) :
    k0_pay8 (F := Ideal) y s (ix4 b r l k)
      = rGelu (y (ix3 b r ⟨l.val * 128 + k.val, by omega⟩) * s (ix1 ⟨l.val * 128 + k.val, by omega⟩))
          (y (ix3 b r ⟨11520 + (l.val * 128 + k.val), by omega⟩) * s (ix1 ⟨11520 + (l.val * 128 + k.val), by omega⟩)) := by
  pointwise [k0_pay8]
  rfl

theorem red4 (x : FVec Ideal S2x8192x90x128 .f32) (b : Fin 2) (r : Fin 8192) (l : Fin 90) :
    shapeCast S2x8192x90x1 (multiReduction (F := Ideal) .maximumf [3] S2x8192x90 x 0xFF800000#32 reduces_S2x8192x90x128_S2x8192x90 (.inl rfl) rfl)
        shapeCasts_S2x8192x90_S2x8192x90x1 (ix4 b r l 0)
      = Finset.fold max (Ideal.ofBits .f32 0xFF800000#32) (fun k : Fin 128 => x (ix4 b r l k)) Finset.univ := by
  pointwise []

theorem pay9_eq (y : FVec Ideal S2x8192x23040 .f32) (s : FVec Ideal S23040 .f32) :
    k0_pay9 (F := Ideal) y s = vExp (shapeCast S2x8192x90x1 (multiReduction (F := Ideal) .maximumf [3] S2x8192x90 (absf (k0_pay8 (F := Ideal) y s)) 0xFF800000#32 reduces_S2x8192x90x128_S2x8192x90 (.inl rfl) rfl)
        shapeCasts_S2x8192x90_S2x8192x90x1) := by
  delta k0_pay9 vExp
  rfl

theorem pay9 (y : FVec Ideal S2x8192x23040 .f32) (s : FVec Ideal S23040 .f32) (b : Fin 2) (r : Fin 8192) (l : Fin 90) :
    k0_pay9 (F := Ideal) y s (ix4 b r l 0)
      = rExp (amax fun k => k0_pay8 (F := Ideal) y s (ix4 b r l k)) (vmax fun k => k0_pay8 (F := Ideal) y s (ix4 b r l k)) := by
  rw [pay9_eq, vExp_apply]
  unfold vmax amax
  rw [red4]
  generalize k0_pay8 (F := Ideal) y s = z
  rfl

theorem last2 (e : FVec Ideal S2x8192x90x1 .f32) (b : Fin 2) (r : Fin 8192) (l : Fin 90) :
    k0_pay2 (F := Ideal) (exp2 e) (ix3 b r l) = Ideal.exp2 (e (ix4 b r l 0)) := by
  pointwise [k0_pay2]
  rfl

theorem pay2 (y : FVec Ideal S2x8192x23040 .f32) (s : FVec Ideal S23040 .f32) (b : Fin 2) (r : Fin 8192) (l : Fin 90) :
    k0_pay2 (F := Ideal) (k0_pay10 y s) (ix3 b r l) = rScale fun k => k0_pay8 (F := Ideal) y s (ix4 b r l k) := by
  unfold rScale
  rw [← pay9 y s b r l]
  exact last2 _ b r l

theorem last1 (z : FVec Ideal S2x8192x90x128 .f32) (e : FVec Ideal S2x8192x90x1 .f32) (b : Fin 2) (r : Fin 8192) (f : Fin 11520) :
    k0_pay1 (F := Ideal) z (subf (broadcast S2x8192x90x1 (Scalar.ofBits .f32 0x00000000#32)) e) (ix3 b r f)
      = clip (z (ix4 b r ⟨f.val / 128, by omega⟩ ⟨f.val % 128, by omega⟩))
          (Ideal.exp2 (Ideal.ofBits .f32 0x00000000#32 - e (ix4 b r ⟨f.val / 128, by omega⟩ 0))) := by
  unfold clip
  rw [Ideal.ofBits_zero]
  pointwise [k0_pay1]
  rfl

theorem pay1 (y : FVec Ideal S2x8192x23040 .f32) (s : FVec Ideal S23040 .f32) (b : Fin 2) (r : Fin 8192) (f : Fin 11520) :
    k0_pay1 (F := Ideal) (k0_pay8 y s) (k0_pay11 y s) (ix3 b r f)
      = rCode (fun k => k0_pay8 (F := Ideal) y s (ix4 b r ⟨f.val / 128, by omega⟩ k)) ⟨f.val % 128, by omega⟩ := by
  unfold rCode
  rw [← pay9 y s b r ⟨f.val / 128, by omega⟩]
  exact last1 _ _ b r f

/-! ## The four results -/

/-- The row of `x` at batch `b`, position `r`. -/
def xrow (x : FVec Ideal S2x8192x3712 .bf16) (b : Fin 2) (r : Fin 8192) (k : Fin 3712) : EReal := x (ix3 b r k)
/-- The weights. -/
def wts (w : FVec Ideal S23040x3712 .fp8e4m3) (f : Fin 23040) (k : Fin 3712) : EReal := w (ix2 f k)
/-- Their scales. -/
def wsc (s : FVec Ideal S23040 .f32) (f : Fin 23040) : EReal := s (ix1 f)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Group `l` of the hidden row. -/
theorem hgroup (x : FVec Ideal S2x8192x3712 .bf16) (w : FVec Ideal S23040x3712 .fp8e4m3) (s : FVec Ideal S23040 .f32)
    (b : Fin 2) (r : Fin 8192) (l : Fin 90) (k : Fin 128) :
    k0_pay8 (F := Ideal) (k0_pay7 x w) s (ix4 b r l k) = grp (hRow (xrow x b r) (wts w) (wsc s)) l k := by
  rw [pay8, pay7, pay7, hRow_eq_ref]
  rfl

theorem hcodes (x : FVec Ideal S2x8192x3712 .bf16) (w : FVec Ideal S23040x3712 .fp8e4m3) (s : FVec Ideal S23040 .f32)
    (b : Fin 2) (r : Fin 8192) (f : Fin 11520) :
    k0_pay1 (F := Ideal) (k0_pay8 (k0_pay7 x w) s) (k0_pay11 (k0_pay7 x w) s) (ix3 b r f)
      = hCode (hRow (xrow x b r) (wts w) (wsc s)) f := by
  rw [pay1, hCode_eq_ref]
  simp only [hgroup]

theorem hscales (x : FVec Ideal S2x8192x3712 .bf16) (w : FVec Ideal S23040x3712 .fp8e4m3) (s : FVec Ideal S23040 .f32)
    (b : Fin 2) (r : Fin 8192) (l : Fin 90) :
    k0_pay2 (F := Ideal) (k0_pay10 (k0_pay7 x w) s) (ix3 b r l) = hScale (hRow (xrow x b r) (wts w) (wsc s)) l := by
  rw [pay2, hScale_eq_ref]
  simp only [hgroup]

theorem xcodes (x : FVec Ideal S2x8192x3712 .bf16) (b : Fin 2) (r : Fin 8192) (k : Fin 3712) :
    k0_pay6 (F := Ideal) x (ix3 b r k) = code (xrow x b r) k := by
  rw [pay6, code_eq_ref (by decide)]
  rfl

theorem xscales (x : FVec Ideal S2x8192x3712 .bf16) (b : Fin 2) (r : Fin 8192) :
    k0_pay5 (F := Ideal) x (ix3 b r 0) = scale (xrow x b r) := by
  rw [pay5, scale_eq_ref (by decide)]
  rfl

variable (m : (ℓ : Loc nD τ sig) → Buf (Elt Ideal) ℓ)

theorem idx : ∀ t : Fin cfg0.N, win0_0.index t = ![0, 0, 0] ∧ win0_1.index t = ![0, 0] ∧ win0_2.index t = ![0]
    ∧ win0_3.index t = ![0, 0, 0] ∧ win0_4.index t = ![0, 0, 0] ∧ win0_5.index t = ![0, 0, 0] ∧ win0_6.index t = ![0, 0, 0] :=
  (by decide +kernel : ∀ t : Fin grid0.N, _)

theorem iblk0 (c : Dev nD) (t : Fin cfg0.N) : iblk m c 0 t = m ((c : Thread nD τ).loc main_arg0) := by
  blk_ext! [iblk, V, idx t]
theorem iblk1 (c : Dev nD) (t : Fin cfg0.N) : iblk m c 1 t = m ((c : Thread nD τ).loc main_arg1) := by
  blk_ext! [iblk, V, idx t]
theorem iblk2 (c : Dev nD) (t : Fin cfg0.N) : iblk m c 2 t = m ((c : Thread nD τ).loc main_arg2) := by
  blk_ext! [iblk, V, idx t]

theorem final3 (c : Dev nD) : (dats m 0 c).arrAt 3 (cfgs 0).N
    = out0_3 (m ((c : Thread nD τ).loc main_arg0)) (m ((c : Thread nD τ).loc main_arg1)) (m ((c : Thread nD τ).loc main_arg2)) := by
  refine (dats m 0 c).arrAt_eq_of_after_last 3 t0_0 (by decide +kernel) _ fun j => ?_
  blk_simp
  rw [after0_3, iblk0, iblk1, iblk2]
  blk_ext [idx t0_0]

theorem final4 (c : Dev nD) : (dats m 0 c).arrAt 4 (cfgs 0).N
    = out0_4 (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4, iblk0, iblk1, iblk2]
  blk_ext [idx t0_0]

theorem final5 (c : Dev nD) : (dats m 0 c).arrAt 5 (cfgs 0).N
    = out0_5 (m ((c : Thread nD τ).loc main_arg0)) (m ((c : Thread nD τ).loc main_arg1)) (m ((c : Thread nD τ).loc main_arg2)) := by
  refine (dats m 0 c).arrAt_eq_of_after_last 5 t0_0 (by decide +kernel) _ fun j => ?_
  blk_simp
  rw [after0_5, iblk0, iblk1, iblk2]
  blk_ext [idx t0_0]

theorem final6 (c : Dev nD) : (dats m 0 c).arrAt 6 (cfgs 0).N
    = out0_6 (m ((c : Thread nD τ).loc main_arg0)) (m ((c : Thread nD τ).loc main_arg1)) (m ((c : Thread nD τ).loc main_arg2)) := by
  refine (dats m 0 c).arrAt_eq_of_after_last 6 t0_0 (by decide +kernel) _ fun j => ?_
  blk_simp
  rw [after0_6, iblk0, iblk1, iblk2]
  blk_ext [idx t0_0]

theorem out3 (x : FVec Ideal S2x8192x3712 .bf16) (w : FVec Ideal S23040x3712 .fp8e4m3) (s : FVec Ideal S23040 .f32)
    (b : Fin 2) (r : Fin 8192) (f : Fin 11520) : out0_3 (F := Ideal) x w s (ix3 b r f) = hCode (hRow (xrow x b r) (wts w) (wsc s)) f := by
  unfold out0_3 k0_pay12
  rw [View.canon_unit_zero hz3, View.ld_unit_zero hz3, View.ld_unit_zero hz2, View.ld_unit_zero hz1]
  exact hcodes x w s b r f

theorem out4 (x : FVec Ideal S2x8192x3712 .bf16) (w : FVec Ideal S23040x3712 .fp8e4m3) (s : FVec Ideal S23040 .f32)
    (b : Fin 2) (r : Fin 8192) (l : Fin 90) : out0_4 (F := Ideal) x w s (ix3 b r l) = hScale (hRow (xrow x b r) (wts w) (wsc s)) l := by
  unfold out0_4 k0_pay12
  rw [View.canon_unit_zero hz3, View.ld_unit_zero hz3, View.ld_unit_zero hz2, View.ld_unit_zero hz1]
  exact hscales x w s b r l

theorem out5 (x : FVec Ideal S2x8192x3712 .bf16) (w : FVec Ideal S23040x3712 .fp8e4m3) (s : FVec Ideal S23040 .f32)
    (b : Fin 2) (r : Fin 8192) (k : Fin 3712) : out0_5 (F := Ideal) x w s (ix3 b r k) = code (xrow x b r) k := by
  unfold out0_5
  rw [View.canon_unit_zero hz3, View.ld_unit_zero hz3]
  exact xcodes x b r k

theorem out6 (x : FVec Ideal S2x8192x3712 .bf16) (w : FVec Ideal S23040x3712 .fp8e4m3) (s : FVec Ideal S23040 .f32)
    (b : Fin 2) (r : Fin 8192) : out0_6 (F := Ideal) x w s (ix3 b r 0) = scale (xrow x b r) := by
  unfold out0_6
  rw [View.canon_unit_zero hz3, View.ld_unit_zero hz3]
  exact xscales x b r

end Cert.ReferenceIdeal.Value

end
-- ==== Proof.Value.Results.lean ====
/- The two calls joined over the extended reals: each of the four results of the kernel is, at every index, the one
   function of the arguments that the reference's result is. -/
module

public import proofs.«01_k».proof.Proof.KernelIdeal.Run
public import proofs.«01_k».proof.Proof.Value.Hidden
public import proofs.«01_k».proof.Proof.Value.Reference
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run Cert.Scale Cert.Spec
open Cert.ReferenceIdeal.Value (xrow wts)

/-! ## The reshapes between the calls, at an index -/

section Reshapes
variable (b : Fin 2) (r : Fin 8192) (R : Fin 16384) (hR : R.val = 8192 * b.val + r.val)
include hR

theorem flat_at (x : FVec Ideal S2x8192x3712 .bf16) (k : Fin 3712) :
    shapeCast S16384x3712 x shapeCasts_S2x8192x3712_S16384x3712 (ix2 R k) = x (ix3 b r k) := by
  have e0 : (⟨R.val / 8192, by omega⟩ : Fin 2) = b := Fin.ext (by simp only; omega)
  have e1 : (⟨R.val % 8192, by omega⟩ : Fin 8192) = r := Fin.ext (by simp only; omega)
  pointwise
  rw [e0, e1]

theorem unflat_h (x : FVec Ideal S16384x11520 .fp8e4m3) (k : Fin 11520) :
    shapeCast S2x8192x11520 x shapeCasts_S16384x11520_S2x8192x11520 (ix3 b r k) = x (ix2 R k) := by
  have e0 : (⟨b.val * 8192 + r.val, by omega⟩ : Fin 16384) = R := Fin.ext (by simp only; omega)
  pointwise
  rw [e0]

theorem unflat_hs (x : FVec Ideal S16384x90 .f32) (k : Fin 90) :
    shapeCast S2x8192x90 x shapeCasts_S16384x90_S2x8192x90 (ix3 b r k) = x (ix2 R k) := by
  have e0 : (⟨b.val * 8192 + r.val, by omega⟩ : Fin 16384) = R := Fin.ext (by simp only; omega)
  pointwise
  rw [e0]

theorem unflat_x (x : FVec Ideal S16384x3712 .fp8e4m3) (k : Fin 3712) :
    shapeCast S2x8192x3712 x shapeCasts_S16384x3712_S2x8192x3712 (ix3 b r k) = x (ix2 R k) := by
  have e0 : (⟨b.val * 8192 + r.val, by omega⟩ : Fin 16384) = R := Fin.ext (by simp only; omega)
  pointwise
  rw [e0]

theorem unflat_xs (x : FVec Ideal S16384x1 .f32) :
    shapeCast S2x8192x1 x shapeCasts_S16384x1_S2x8192x1 (ix3 b r 0) = x (ix2 R 0) := by
  have e0 : (⟨b.val * 8192 + r.val, by omega⟩ : Fin 16384) = R := Fin.ext (by simp only; omega)
  pointwise
  rw [e0]

end Reshapes

theorem row_at (s : FVec Ideal S23040 .f32) (f : Fin 23040) :
    shapeCast S1x23040 s shapeCasts_S23040_S1x23040 (ix2 0 f) = s (ix1 f) := by
  pointwise

variable (m : (ℓ : Loc nD τ sig) → Buf (Elt Ideal) ℓ)

/-! ## What the calls are given -/

theorem E0_v0 (c : Dev nD) : E0 m c main_v0
    = shapeCast S16384x3712 (m ((c : Thread nD τ).loc main_arg0)) shapeCasts_S2x8192x3712_S16384x3712 := by
  unfold E0 W1
  after_results
  try rfl

theorem E1_v2' (c : Dev nD) : E1 m c main_v2
    = shapeCast S1x23040 (W2 m c main_arg2) shapeCasts_S23040_S1x23040 := by
  unfold E1 W3
  after_results
  try rfl

theorem W5_v4 (c : Dev nD) (γ : Γ m c) : W5 m c γ main_v4
    = shapeCast S2x8192x11520 (W4 m c γ main_v3_0) shapeCasts_S16384x11520_S2x8192x11520 := by
  unfold W5
  after_results
  try rfl
theorem W5_v5 (c : Dev nD) (γ : Γ m c) : W5 m c γ main_v5
    = shapeCast S2x8192x90 (W4 m c γ main_v3_1) shapeCasts_S16384x90_S2x8192x90 := by
  unfold W5
  after_results
  try rfl
theorem W5_v6 (c : Dev nD) (γ : Γ m c) : W5 m c γ main_v6
    = shapeCast S2x8192x3712 (W4 m c γ main_v1_0) shapeCasts_S16384x3712_S2x8192x3712 := by
  unfold W5
  after_results
  try rfl
theorem W5_v7 (c : Dev nD) (γ : Γ m c) : W5 m c γ main_v7
    = shapeCast S2x8192x1 (W4 m c γ main_v1_1) shapeCasts_S16384x1_S2x8192x1 := by
  unfold W5
  after_results
  try rfl

theorem W2_arg2 (c : Dev nD) : W2 m c main_arg2 = m ((c : Thread nD τ).loc main_arg2) :=
  (W2_of_ne m c main_arg2 (by decide)).trans (W1_of m c main_arg2 (by decide))

theorem E1_v1_0 (c : Dev nD) : E1 m c main_v1_0 = qCodes (E0 m) c :=
  (W3_of m c main_v1_0 (by decide)).trans ((W2_arr m c 1).trans (final0_1 (E0 m) c))

theorem E1_v1_1 (c : Dev nD) : E1 m c main_v1_1 = qScales (E0 m) c :=
  (W3_of m c main_v1_1 (by decide)).trans ((W2_arr m c 2).trans (final0_2 (E0 m) c))

theorem E1_arg1 (c : Dev nD) : E1 m c main_arg1 = m ((c : Thread nD τ).loc main_arg1) :=
  W3_arg m c main_arg1 (by decide) (by decide) (by decide)

theorem W4_v3_0 (c : Dev nD) (γ : Γ m c) : W4 m c γ main_v3_0 = hCodes (E1 m) c :=
  (W4_arr m c γ 6).trans (final1_6 (E1 m) c _ (γ.2 6))

theorem W4_v3_1 (c : Dev nD) (γ : Γ m c) : W4 m c γ main_v3_1 = hScales (E1 m) c :=
  (W4_arr m c γ 7).trans (final1_7 (E1 m) c _ (γ.2 7))

theorem W4_v1_0 (c : Dev nD) (γ : Γ m c) : W4 m c γ main_v1_0 = qCodes (E0 m) c :=
  (W4_arr m c γ 0).trans ((γ_in m c γ 0 rfl).trans (E1_v1_0 m c))

theorem W4_v1_1 (c : Dev nD) (γ : Γ m c) : W4 m c γ main_v1_1 = qScales (E0 m) c :=
  (W4_arr m c γ 1).trans ((γ_in m c γ 1 rfl).trans (E1_v1_1 m c))

/-! ## The rows -/

/-- A core's first argument, weights and weight scales, at their own shapes. -/
abbrev argX (c : Dev nD) : FVec Ideal Cert.ReferenceIdeal.S2x8192x3712 .bf16 := m ((c : Thread nD τ).loc main_arg0)
abbrev argW (c : Dev nD) : FVec Ideal Cert.ReferenceIdeal.S23040x3712 .fp8e4m3 := m ((c : Thread nD τ).loc main_arg1)
abbrev argS (c : Dev nD) : FVec Ideal Cert.ReferenceIdeal.S23040 .f32 := m ((c : Thread nD τ).loc main_arg2)

theorem rowIn_eq (c : Dev nD) (b : Fin 2) (r : Fin 8192) (R : Fin 16384) (hR : R.val = 8192 * b.val + r.val) :
    rowIn (E0 m) c R = xrow (argX m c) b r := by
  funext k
  unfold rowIn xrow
  rw [E0_v0 m c]
  exact flat_at b r R hR _ k

theorem qrow_eq (c : Dev nD) (R : Fin 16384) : qrow (E1 m) c R = code (rowIn (E0 m) c R) := by
  funext k
  unfold qrow
  rw [E1_v1_0 m c]
  exact qCodes_at (E0 m) c R k

theorem qsc_eq (c : Dev nD) (R : Fin 16384) : qsc (E1 m) c R = scale (rowIn (E0 m) c R) := by
  unfold qsc
  rw [E1_v1_1 m c]
  exact qScales_at (E0 m) c R 0

theorem wrow_eq (c : Dev nD) (f : Fin 23040) : wrow (E1 m) c f = wts (argW m c) f := by
  funext k
  unfold wrow wts
  rw [E1_arg1 m c]

theorem wsc_eq (c : Dev nD) (f : Fin 23040) : wsc (E1 m) c f = Cert.ReferenceIdeal.Value.wsc (argS m c) f := by
  unfold wsc Cert.ReferenceIdeal.Value.wsc
  rw [E1_v2' m c, W2_arg2 m c]
  exact row_at _ f

/-- The hidden row of the second call is the hidden row of the arguments. -/
theorem hidV_eq (c : Dev nD) (b : Fin 2) (r : Fin 8192) (R : Fin 16384) (hR : R.val = 8192 * b.val + r.val) :
    hidV (E1 m) c R = hRow (xrow (argX m c) b r) (wts (argW m c)) (Cert.ReferenceIdeal.Value.wsc (argS m c)) := by
  funext f
  unfold hidV hRow hid
  rw [qrow_eq, qsc_eq, wrow_eq, wrow_eq, wsc_eq, wsc_eq, rowIn_eq m c b r R hR]

/-! ## The four results -/

/-- The flat row of batch `b`, row `r`. -/
def flat (b : Fin 2) (r : Fin 8192) : Fin 16384 := ⟨8192 * b.val + r.val, by omega⟩

theorem result0 (c : Dev nD) (γ : Γ m c) :
    W5 m c γ main_v4 = Cert.ReferenceIdeal.Gen.out0_3 (F := Ideal) (argX m c) (argW m c) (argS m c) := by
  rw [W5_v4 m c γ, W4_v3_0 m c γ]
  funext i
  idx_vars i
  refine (unflat_h i0 i1 (flat i0 i1) rfl _ i2).trans ?_
  rw [hCodes_at, hidV_eq m c i0 i1 _ rfl]
  exact (Cert.ReferenceIdeal.Value.out3 _ _ _ i0 i1 i2).symm

theorem result1 (c : Dev nD) (γ : Γ m c) :
    W5 m c γ main_v5 = Cert.ReferenceIdeal.Gen.out0_4 (F := Ideal) (argX m c) (argW m c) (argS m c) := by
  rw [W5_v5 m c γ, W4_v3_1 m c γ]
  funext i
  idx_vars i
  refine (unflat_hs i0 i1 (flat i0 i1) rfl _ i2).trans ?_
  rw [hScales_at, hidV_eq m c i0 i1 _ rfl]
  exact (Cert.ReferenceIdeal.Value.out4 _ _ _ i0 i1 i2).symm

theorem result2 (c : Dev nD) (γ : Γ m c) :
    W5 m c γ main_v6 = Cert.ReferenceIdeal.Gen.out0_5 (F := Ideal) (argX m c) (argW m c) (argS m c) := by
  rw [W5_v6 m c γ, W4_v1_0 m c γ]
  funext i
  idx_vars i
  refine (unflat_x i0 i1 (flat i0 i1) rfl _ i2).trans ?_
  rw [qCodes_at, rowIn_eq m c i0 i1 _ rfl]
  exact (Cert.ReferenceIdeal.Value.out5 _ _ _ i0 i1 i2).symm

theorem result3 (c : Dev nD) (γ : Γ m c) :
    W5 m c γ main_v7 = Cert.ReferenceIdeal.Gen.out0_6 (F := Ideal) (argX m c) (argW m c) (argS m c) := by
  rw [W5_v7 m c γ, W4_v1_1 m c γ]
  funext i
  idx_vars i
  obtain rfl : i2 = 0 := Subsingleton.elim _ _
  refine (unflat_xs i0 i1 (flat i0 i1) rfl _).trans ?_
  rw [qScales_at, rowIn_eq m c i0 i1 _ rfl]
  exact (Cert.ReferenceIdeal.Value.out6 _ _ _ i0 i1).symm

end Cert.KernelIdeal.Value

end
-- ==== Proof.Value.Agree.lean ====
/- THE VALUE CLAIM: from one set of arguments the kernel over the extended reals and the reference end with the same
   four results, the arguments unchanged on both sides. -/
module

public import proofs.«01_k».proof.Defs
public import proofs.«01_k».proof.Proof.Gen.ReferenceIdeal.Frame
public import proofs.«01_k».proof.Proof.Value.Results

@[expose] public section

set_option maxRecDepth 16384

noncomputable section

/-! ## The reference's run -/

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's four results as functions of its arguments. -/
theorem run : θ_run (defs (F := Ideal)) (onTc (τ := τ) (main (F := Ideal))) ⟨m, fun _ => 0, ρ⟩ (fun r => ∀ c : Dev nD,
      r.2.mem ((c.tc : Thread nD τ).loc main_v0_0) = out0_3 (F := Ideal) (m ((c.tc : Thread nD τ).loc main_arg0)) (m ((c.tc : Thread nD τ).loc main_arg1)) (m ((c.tc : Thread nD τ).loc main_arg2))
      ∧ r.2.mem ((c.tc : Thread nD τ).loc main_v0_1) = out0_4 (F := Ideal) (m ((c.tc : Thread nD τ).loc main_arg0)) (m ((c.tc : Thread nD τ).loc main_arg1)) (m ((c.tc : Thread nD τ).loc main_arg2))
      ∧ r.2.mem ((c.tc : Thread nD τ).loc main_v0_2) = out0_5 (F := Ideal) (m ((c.tc : Thread nD τ).loc main_arg0)) (m ((c.tc : Thread nD τ).loc main_arg1)) (m ((c.tc : Thread nD τ).loc main_arg2))
      ∧ r.2.mem ((c.tc : Thread nD τ).loc main_v0_3) = out0_6 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c), ((h c).1 4).trans (final4 m c),
      ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.ReferenceIdeal.Value

/-! ## The kernel's run -/

namespace Cert.KernelIdeal.Value

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (ρ : Dev nD → PrngReg)

/-- The kernel's four results as the same functions of its arguments. -/
theorem results : θ_run (defs (F := Ideal)) (onTc (τ := τ) (main (F := Ideal))) ⟨m, fun _ => 0, ρ⟩ (fun r => ∀ c : Dev nD,
      r.2.mem ((c.tc : Thread nD τ).loc main_v4) = Cert.ReferenceIdeal.Gen.out0_3 (F := Ideal) (argX m c) (argW m c) (argS m c)
      ∧ r.2.mem ((c.tc : Thread nD τ).loc main_v5) = Cert.ReferenceIdeal.Gen.out0_4 (F := Ideal) (argX m c) (argW m c) (argS m c)
      ∧ r.2.mem ((c.tc : Thread nD τ).loc main_v6) = Cert.ReferenceIdeal.Gen.out0_5 (F := Ideal) (argX m c) (argW m c) (argS m c)
      ∧ r.2.mem ((c.tc : Thread nD τ).loc main_v7) = Cert.ReferenceIdeal.Gen.out0_6 (F := Ideal) (argX m c) (argW m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨γ, hγ⟩ := h.1 c
    exact ⟨(hγ _ (mem_uc main_v4 (by decide))).trans (result0 m c γ),
      (hγ _ (mem_uc main_v5 (by decide))).trans (result1 m c γ),
      (hγ _ (mem_uc main_v6 (by decide))).trans (result2 m c γ),
      (hγ _ (mem_uc main_v7 (by decide))).trans (result3 m c γ),
      (hγ _ (mem_uc main_arg0 (by decide))).trans (W5_main_arg0 m c γ),
      (hγ _ (mem_uc main_arg1 (by decide))).trans (W5_main_arg1 m c γ),
      (hγ _ (mem_uc main_arg2 (by decide))).trans (W5_main_arg2 m c γ)⟩) (run m ρ)

end Cert.KernelIdeal.Value

/-! ## The two side by side -/

namespace Cert.Value

open Idealize.ShloMosaic Idealize.ShloMosaic.TcCoe Idealize.SL.Sem
open Cert.KernelIdeal.Value (argX argW argS)

theorem agree : letI := Cert.KernelIdeal.Gen.facts; letI := Cert.ReferenceIdeal.Gen.facts; Cert.algebraic_KernelIdeal_ReferenceIdeal := by
  intro m g m' g' _ hargs
  refine ⟨fun c => Cert.ReferenceIdeal.Gen.out0_3 (F := Ideal) (argX m c) (argW m c) (argS m c),
    fun c => Cert.ReferenceIdeal.Gen.out0_4 (F := Ideal) (argX m c) (argW m c) (argS m c),
    fun c => Cert.ReferenceIdeal.Gen.out0_5 (F := Ideal) (argX m c) (argW m c) (argS m c),
    fun c => Cert.ReferenceIdeal.Gen.out0_6 (F := Ideal) (argX m c) (argW m c) (argS m c),
    Cert.KernelIdeal.Value.results m g, ?_⟩
  refine (θ_run _ _ _).mono (fun r h c => ?_) (Cert.ReferenceIdeal.Value.run m' g')
  have hc := h c
  rw [(hargs c).1, (hargs c).2.1, (hargs c).2.2] at hc
  rw [(hargs c).1, (hargs c).2.1, (hargs c).2.2]
  exact hc

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Value.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  trivial, Cert.Value.agree⟩

end Cert.Proof

end
